-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x64x512 : Shape := ⟨3, ![32, 64, 512]⟩
abbrev S1x8x512 : Shape := ⟨3, ![1, 8, 512]⟩
abbrev S512x512 : Shape := ⟨2, ![512, 512]⟩
abbrev S512 : Shape := ⟨1, ![512]⟩
abbrev S8x1x2x25 : Shape := ⟨4, ![8, 1, 2, 25]⟩
abbrev S8 : Shape := ⟨1, ![8]⟩
abbrev S8x96x512 : Shape := ⟨3, ![8, 96, 512]⟩
abbrev S8x96 : Shape := ⟨2, ![8, 96]⟩
abbrev S32x8x512 : Shape := ⟨3, ![32, 8, 512]⟩
abbrev S1x1x512 : Shape := ⟨3, ![1, 1, 512]⟩
abbrev S32x8x4x128 : Shape := ⟨4, ![32, 8, 4, 128]⟩
abbrev S32x64x4x128 : Shape := ⟨4, ![32, 64, 4, 128]⟩
abbrev S32x4x8x64 : Shape := ⟨4, ![32, 4, 8, 64]⟩
abbrev S_ : Shape := ⟨0, ![]⟩
abbrev S32x4x8 : Shape := ⟨3, ![32, 4, 8]⟩
abbrev S32x4x8x1 : Shape := ⟨4, ![32, 4, 8, 1]⟩
abbrev S32x4x128x8 : Shape := ⟨4, ![32, 4, 128, 8]⟩
abbrev S32x8x64 : Shape := ⟨3, ![32, 8, 64]⟩
abbrev S32x8 : Shape := ⟨2, ![32, 8]⟩
abbrev S32x8x1 : Shape := ⟨3, ![32, 8, 1]⟩
abbrev S32x64 : Shape := ⟨2, ![32, 64]⟩
abbrev S32x64x1 : Shape := ⟨3, ![32, 64, 1]⟩
abbrev S32x1x64 : Shape := ⟨3, ![32, 1, 64]⟩
abbrev S1x1x8 : Shape := ⟨3, ![1, 1, 8]⟩
abbrev S32x64x8 : Shape := ⟨3, ![32, 64, 8]⟩
abbrev S1x512 : Shape := ⟨2, ![1, 512]⟩
abbrev S8x1x1x25 : Shape := ⟨4, ![8, 1, 1, 25]⟩
abbrev S8x25 : Shape := ⟨2, ![8, 25]⟩
abbrev S1x8x1x25 : Shape := ⟨4, ![1, 8, 1, 25]⟩
abbrev S4x8x1x25 : Shape := ⟨4, ![4, 8, 1, 25]⟩
abbrev S32x25 : Shape := ⟨2, ![32, 25]⟩
abbrev S8x1 : Shape := ⟨2, ![8, 1]⟩
abbrev S1x8x1x1 : Shape := ⟨4, ![1, 8, 1, 1]⟩
abbrev S4x8x1x1 : Shape := ⟨4, ![4, 8, 1, 1]⟩
abbrev S32x1 : Shape := ⟨2, ![32, 1]⟩
abbrev S768x512 : Shape := ⟨2, ![768, 512]⟩
abbrev S32x64x96 : Shape := ⟨3, ![32, 64, 96]⟩
abbrev S4x64x512 : Shape := ⟨3, ![4, 64, 512]⟩
abbrev S4x64x8 : Shape := ⟨3, ![4, 64, 8]⟩
abbrev S4x64x96 : Shape := ⟨3, ![4, 64, 96]⟩
abbrev S256x768 : Shape := ⟨2, ![256, 768]⟩
abbrev S32x768 : Shape := ⟨2, ![32, 768]⟩
abbrev S256x512 : Shape := ⟨2, ![256, 512]⟩
abbrev S8x512 : Shape := ⟨2, ![8, 512]⟩
abbrev S32x512 : Shape := ⟨2, ![32, 512]⟩
abbrev S8x128 : Shape := ⟨2, ![8, 128]⟩
abbrev S256x128 : Shape := ⟨2, ![256, 128]⟩
abbrev S8x256 : Shape := ⟨2, ![8, 256]⟩
abbrev S8x64 : Shape := ⟨2, ![8, 64]⟩
abbrev S64x128 : Shape := ⟨2, ![64, 128]⟩
abbrev S32x128 : Shape := ⟨2, ![32, 128]⟩
abbrev S512x128 : Shape := ⟨2, ![512, 128]⟩
abbrev S256x8 : Shape := ⟨2, ![256, 8]⟩
abbrev S256x25 : Shape := ⟨2, ![256, 25]⟩
abbrev S64x8 : Shape := ⟨2, ![64, 8]⟩
abbrev S64x512 : Shape := ⟨2, ![64, 512]⟩
abbrev S64x1 : Shape := ⟨2, ![64, 1]⟩
abbrev S256x96 : Shape := ⟨2, ![256, 96]⟩
abbrev S256x1 : Shape := ⟨2, ![256, 1]⟩

abbrev nBuf : Space → Nat
  | .hbm => 121
  | .vmem => 22
  | .smem => 0
  | _ => 0

abbrev bufTy : (tb : Table) → Fin (tcTables nBuf tb) → BufTy
  | .hbm, ⟨0, _⟩ => ⟨S32x64x512, .f32⟩
  | .hbm, ⟨1, _⟩ => ⟨S1x8x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S8x1x2x25, .f32⟩
  | .hbm, ⟨11, _⟩ => ⟨S8, .f32⟩
  | .hbm, ⟨12, _⟩ => ⟨S8x96x512, .f32⟩
  | .hbm, ⟨13, _⟩ => ⟨S8x96, .f32⟩
  | .hbm, ⟨14, _⟩ => ⟨S32x8x512, .f32⟩
  | .hbm, ⟨15, _⟩ => ⟨S32x8x512, .bf16⟩
  | .hbm, ⟨16, _⟩ => ⟨S32x8x512, .f32⟩
  | .hbm, ⟨17, _⟩ => ⟨S512x512, .f32⟩
  | .hbm, ⟨18, _⟩ => ⟨S32x8x512, .f32⟩
  | .hbm, ⟨19, _⟩ => ⟨S1x1x512, .f32⟩
  | .hbm, ⟨20, _⟩ => ⟨S32x8x512, .f32⟩
  | .hbm, ⟨21, _⟩ => ⟨S32x8x512, .f32⟩
  | .hbm, ⟨22, _⟩ => ⟨S32x8x512, .bf16⟩
  | .hbm, ⟨23, _⟩ => ⟨S32x8x4x128, .bf16⟩
  | .hbm, ⟨24, _⟩ => ⟨S512x512, .f32⟩
  | .hbm, ⟨25, _⟩ => ⟨S32x64x512, .f32⟩
  | .hbm, ⟨26, _⟩ => ⟨S1x1x512, .f32⟩
  | .hbm, ⟨27, _⟩ => ⟨S32x64x512, .f32⟩
  | .hbm, ⟨28, _⟩ => ⟨S32x64x512, .f32⟩
  | .hbm, ⟨29, _⟩ => ⟨S32x64x512, .bf16⟩
  | .hbm, ⟨30, _⟩ => ⟨S32x64x4x128, .bf16⟩
  | .hbm, ⟨31, _⟩ => ⟨S512x512, .f32⟩
  | .hbm, ⟨32, _⟩ => ⟨S32x64x512, .f32⟩
  | .hbm, ⟨33, _⟩ => ⟨S1x1x512, .f32⟩
  | .hbm, ⟨34, _⟩ => ⟨S32x64x512, .f32⟩
  | .hbm, ⟨35, _⟩ => ⟨S32x64x512, .f32⟩
  | .hbm, ⟨36, _⟩ => ⟨S32x64x512, .bf16⟩
  | .hbm, ⟨37, _⟩ => ⟨S32x64x4x128, .bf16⟩
  | .hbm, ⟨38, _⟩ => ⟨S32x8x4x128, .f32⟩
  | .hbm, ⟨39, _⟩ => ⟨S32x64x4x128, .f32⟩
  | .hbm, ⟨40, _⟩ => ⟨S32x4x8x64, .f32⟩
  | .hbm, ⟨41, _⟩ => ⟨S_, .f32⟩
  | .hbm, ⟨42, _⟩ => ⟨S32x4x8x64, .f32⟩
  | .hbm, ⟨43, _⟩ => ⟨S32x4x8x64, .f32⟩
  | .hbm, ⟨44, _⟩ => ⟨S_, .f32⟩
  | .hbm, ⟨45, _⟩ => ⟨S32x4x8, .f32⟩
  | .hbm, ⟨46, _⟩ => ⟨S_, .f32⟩
  | .hbm, ⟨47, _⟩ => ⟨S32x4x8, .f32⟩
  | .hbm, ⟨48, _⟩ => ⟨S32x4x8, .f32⟩
  | .hbm, ⟨49, _⟩ => ⟨S32x4x8x1, .f32⟩
  | .hbm, ⟨50, _⟩ => ⟨S32x4x8x64, .f32⟩
  | .hbm, ⟨51, _⟩ => ⟨S32x4x8x64, .f32⟩
  | .hbm, ⟨52, _⟩ => ⟨S32x4x8x64, .f32⟩
  | .hbm, ⟨53, _⟩ => ⟨S_, .f32⟩
  | .hbm, ⟨54, _⟩ => ⟨S32x4x8, .f32⟩
  | .hbm, ⟨55, _⟩ => ⟨S32x4x8x1, .f32⟩
  | .hbm, ⟨56, _⟩ => ⟨S32x4x8x64, .f32⟩
  | .hbm, ⟨57, _⟩ => ⟨S32x4x8x64, .f32⟩
  | .hbm, ⟨58, _⟩ => ⟨S32x64x4x128, .f32⟩
  | .hbm, ⟨59, _⟩ => ⟨S32x4x128x8, .f32⟩
  | .hbm, ⟨60, _⟩ => ⟨S32x8x4x128, .f32⟩
  | .hbm, ⟨61, _⟩ => ⟨S32x8x4x128, .bf16⟩
  | .hbm, ⟨62, _⟩ => ⟨S32x8x4x128, .f32⟩
  | .hbm, ⟨63, _⟩ => ⟨S32x8x512, .f32⟩
  | .hbm, ⟨64, _⟩ => ⟨S512x512, .f32⟩
  | .hbm, ⟨65, _⟩ => ⟨S32x8x512, .f32⟩
  | .hbm, ⟨66, _⟩ => ⟨S1x1x512, .f32⟩
  | .hbm, ⟨67, _⟩ => ⟨S32x8x512, .f32⟩
  | .hbm, ⟨68, _⟩ => ⟨S32x8x512, .f32⟩
  | .hbm, ⟨69, _⟩ => ⟨S32x8x512, .bf16⟩
  | .hbm, ⟨70, _⟩ => ⟨S32x8x512, .f32⟩
  | .hbm, ⟨71, _⟩ => ⟨S32x8x64, .f32⟩
  | .hbm, ⟨72, _⟩ => ⟨S32x8x512, .f32⟩
  | .hbm, ⟨73, _⟩ => ⟨S_, .f32⟩
  | .hbm, ⟨74, _⟩ => ⟨S32x8, .f32⟩
  | .hbm, ⟨75, _⟩ => ⟨S32x8x1, .f32⟩
  | .hbm, ⟨76, _⟩ => ⟨S32x8x1, .f32⟩
  | .hbm, ⟨77, _⟩ => ⟨S32x64x512, .f32⟩
  | .hbm, ⟨78, _⟩ => ⟨S_, .f32⟩
  | .hbm, ⟨79, _⟩ => ⟨S32x64, .f32⟩
  | .hbm, ⟨80, _⟩ => ⟨S32x64x1, .f32⟩
  | .hbm, ⟨81, _⟩ => ⟨S32x64x1, .f32⟩
  | .hbm, ⟨82, _⟩ => ⟨S32x1x64, .f32⟩
  | .hbm, ⟨83, _⟩ => ⟨S32x8x64, .f32⟩
  | .hbm, ⟨84, _⟩ => ⟨S32x8x64, .f32⟩
  | .hbm, ⟨85, _⟩ => ⟨S32x8x64, .f32⟩
  | .hbm, ⟨86, _⟩ => ⟨S32x8x64, .f32⟩
  | .hbm, ⟨87, _⟩ => ⟨S_, .f32⟩
  | .hbm, ⟨88, _⟩ => ⟨S32x8x64, .f32⟩
  | .hbm, ⟨89, _⟩ => ⟨S32x8x64, .f32⟩
  | .hbm, ⟨90, _⟩ => ⟨S_, .f32⟩
  | .hbm, ⟨91, _⟩ => ⟨S32x8x64, .f32⟩
  | .hbm, ⟨92, _⟩ => ⟨S32x8x64, .f32⟩
  | .hbm, ⟨93, _⟩ => ⟨S32x8x64, .i32⟩
  | .hbm, ⟨94, _⟩ => ⟨S_, .f32⟩
  | .hbm, ⟨95, _⟩ => ⟨S_, .i32⟩
  | .hbm, ⟨96, _⟩ => ⟨S32x64, .f32⟩
  | .hbm, ⟨97, _⟩ => ⟨S32x64, .i32⟩
  | .hbm, ⟨98, _⟩ => ⟨S32x64x1, .i32⟩
  | .hbm, ⟨99, _⟩ => ⟨S1x1x8, .i32⟩
  | .hbm, ⟨100, _⟩ => ⟨S32x64x8, .i32⟩
  | .hbm, ⟨101, _⟩ => ⟨S32x64x8, .i32⟩
  | .hbm, ⟨102, _⟩ => ⟨S32x64x8, .i1⟩
  | .hbm, ⟨103, _⟩ => ⟨S32x64x8, .f32⟩
  | .hbm, ⟨104, _⟩ => ⟨S1x512, .f32⟩
  | .hbm, ⟨105, _⟩ => ⟨S1x512, .f32⟩
  | .hbm, ⟨106, _⟩ => ⟨S1x512, .f32⟩
  | .hbm, ⟨107, _⟩ => ⟨S1x512, .f32⟩
  | .hbm, ⟨108, _⟩ => ⟨S8x1x1x25, .f32⟩
  | .hbm, ⟨109, _⟩ => ⟨S8x25, .f32⟩
  | .hbm, ⟨110, _⟩ => ⟨S8x1x1x25, .f32⟩
  | .hbm, ⟨111, _⟩ => ⟨S8x25, .f32⟩
  | .hbm, ⟨112, _⟩ => ⟨S1x8x1x25, .f32⟩
  | .hbm, ⟨113, _⟩ => ⟨S4x8x1x25, .f32⟩
  | .hbm, ⟨114, _⟩ => ⟨S32x25, .f32⟩
  | .hbm, ⟨115, _⟩ => ⟨S8x1, .f32⟩
  | .hbm, ⟨116, _⟩ => ⟨S1x8x1x1, .f32⟩
  | .hbm, ⟨117, _⟩ => ⟨S4x8x1x1, .f32⟩
  | .hbm, ⟨118, _⟩ => ⟨S32x1, .f32⟩
  | .hbm, ⟨119, _⟩ => ⟨S768x512, .f32⟩
  | .hbm, ⟨120, _⟩ => ⟨S32x64x96, .f32⟩
  | .local _ .vmem, ⟨0, _⟩ => ⟨S4x64x512, .f32⟩
  | .local _ .vmem, ⟨1, _⟩ => ⟨S4x64x512, .f32⟩
  | .local _ .vmem, ⟨2, _⟩ => ⟨S1x8x512, .f32⟩
  | .local _ .vmem, ⟨3, _⟩ => ⟨S512x512, .f32⟩
  | .local _ .vmem, ⟨4, _⟩ => ⟨S1x512, .f32⟩
  | .local _ .vmem, ⟨5, _⟩ => ⟨S512x512, .f32⟩
  | .local _ .vmem, ⟨6, _⟩ => ⟨S1x512, .f32⟩
  | .local _ .vmem, ⟨7, _⟩ => ⟨S512x512, .f32⟩
  | .local _ .vmem, ⟨8, _⟩ => ⟨S1x512, .f32⟩
  | .local _ .vmem, ⟨9, _⟩ => ⟨S512x512, .f32⟩
  | .local _ .vmem, ⟨10, _⟩ => ⟨S1x512, .f32⟩
  | .local _ .vmem, ⟨11, _⟩ => ⟨S8x25, .f32⟩
  | .local _ .vmem, ⟨12, _⟩ => ⟨S32x25, .f32⟩
  | .local _ .vmem, ⟨13, _⟩ => ⟨S32x1, .f32⟩
  | .local _ .vmem, ⟨14, _⟩ => ⟨S768x512, .f32⟩
  | .local _ .vmem, ⟨15, _⟩ => ⟨S8x96, .f32⟩
  | .local _ .vmem, ⟨16, _⟩ => ⟨S4x64x8, .f32⟩
  | .local _ .vmem, ⟨17, _⟩ => ⟨S4x64x8, .f32⟩
  | .local _ .vmem, ⟨18, _⟩ => ⟨S4x64x96, .f32⟩
  | .local _ .vmem, ⟨19, _⟩ => ⟨S4x64x96, .f32⟩
  | .local _ .vmem, ⟨20, _⟩ => ⟨S256x768, .f32⟩
  | .local _ .vmem, ⟨21, _⟩ => ⟨S32x768, .f32⟩
  | _, _ => ⟨S32x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst : Ref sig .tc := ⟨.hbm, 41, rfl⟩
abbrev main_v27 : Ref sig .tc := ⟨.hbm, 42, rfl⟩
abbrev main_v28 : Ref sig .tc := ⟨.hbm, 43, rfl⟩
abbrev main_cst_0 : Ref sig .tc := ⟨.hbm, 44, rfl⟩
abbrev main_v29 : Ref sig .tc := ⟨.hbm, 45, rfl⟩
abbrev main_cst_1 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_2 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_call0_v0 : Ref sig .tc := ⟨.hbm, 72, rfl⟩
abbrev main_call0_cst : Ref sig .tc := ⟨.hbm, 73, rfl⟩
abbrev main_call0_v1 : Ref sig .tc := ⟨.hbm, 74, rfl⟩
abbrev main_call0_v2 : Ref sig .tc := ⟨.hbm, 75, rfl⟩
abbrev main_v54 : Ref sig .tc := ⟨.hbm, 76, rfl⟩
abbrev main_call1_v0 : Ref sig .tc := ⟨.hbm, 77, rfl⟩
abbrev main_call1_cst : Ref sig .tc := ⟨.hbm, 78, rfl⟩
abbrev main_call1_v1 : Ref sig .tc := ⟨.hbm, 79, rfl⟩
abbrev main_call1_v2 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_3 : Ref sig .tc := ⟨.hbm, 87, rfl⟩
abbrev main_v61 : Ref sig .tc := ⟨.hbm, 88, rfl⟩
abbrev main_v62 : Ref sig .tc := ⟨.hbm, 89, rfl⟩
abbrev main_cst_4 : Ref sig .tc := ⟨.hbm, 90, rfl⟩
abbrev main_v63 : Ref sig .tc := ⟨.hbm, 91, rfl⟩
abbrev main_v64 : Ref sig .tc := ⟨.hbm, 92, rfl⟩
abbrev main_call2_v0 : Ref sig .tc := ⟨.hbm, 93, rfl⟩
abbrev main_call2_cst : Ref sig .tc := ⟨.hbm, 94, rfl⟩
abbrev main_call2_c : Ref sig .tc := ⟨.hbm, 95, rfl⟩
abbrev main_call2_v1_0 : Ref sig .tc := ⟨.hbm, 96, rfl⟩
abbrev main_v65 : Ref sig .tc := ⟨.hbm, 97, rfl⟩
abbrev main_call3_v0 : Ref sig .tc := ⟨.hbm, 98, rfl⟩
abbrev main_call3_v1 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg16_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x25 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x25 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S768x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x96 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S4x64x8 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x64x96 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S32x64x512 : Shape := ⟨3, ![32, 64, 512]⟩
abbrev S1x8x512 : Shape := ⟨3, ![1, 8, 512]⟩
abbrev S512x512 : Shape := ⟨2, ![512, 512]⟩
abbrev S512 : Shape := ⟨1, ![512]⟩
abbrev S8x1x2x25 : Shape := ⟨4, ![8, 1, 2, 25]⟩
abbrev S8 : Shape := ⟨1, ![8]⟩
abbrev S8x96x512 : Shape := ⟨3, ![8, 96, 512]⟩
abbrev S8x96 : Shape := ⟨2, ![8, 96]⟩
abbrev S32x8x512 : Shape := ⟨3, ![32, 8, 512]⟩
abbrev S1x1x512 : Shape := ⟨3, ![1, 1, 512]⟩
abbrev S32x8x4x128 : Shape := ⟨4, ![32, 8, 4, 128]⟩
abbrev S32x64x4x128 : Shape := ⟨4, ![32, 64, 4, 128]⟩
abbrev S32x4x8x64 : Shape := ⟨4, ![32, 4, 8, 64]⟩
abbrev S_ : Shape := ⟨0, ![]⟩
abbrev S32x4x8 : Shape := ⟨3, ![32, 4, 8]⟩
abbrev S32x4x8x1 : Shape := ⟨4, ![32, 4, 8, 1]⟩
abbrev S32x4x128x8 : Shape := ⟨4, ![32, 4, 128, 8]⟩
abbrev S32x8x64 : Shape := ⟨3, ![32, 8, 64]⟩
abbrev S32x8 : Shape := ⟨2, ![32, 8]⟩
abbrev S32x8x1 : Shape := ⟨3, ![32, 8, 1]⟩
abbrev S32x64 : Shape := ⟨2, ![32, 64]⟩
abbrev S32x64x1 : Shape := ⟨3, ![32, 64, 1]⟩
abbrev S32x1x64 : Shape := ⟨3, ![32, 1, 64]⟩
abbrev S1 : Shape := ⟨1, ![1]⟩
abbrev S1x1x1 : Shape := ⟨3, ![1, 1, 1]⟩
abbrev S32x64x1x512 : Shape := ⟨4, ![32, 64, 1, 512]⟩
abbrev S32x64x2x512 : Shape := ⟨4, ![32, 64, 2, 512]⟩
abbrev S2048x2x512 : Shape := ⟨3, ![2048, 2, 512]⟩
abbrev S2048 : Shape := ⟨1, ![2048]⟩
abbrev S2048x1 : Shape := ⟨2, ![2048, 1]⟩
abbrev S2048x1x2x25 : Shape := ⟨4, ![2048, 1, 2, 25]⟩
abbrev S2048x2x536 : Shape := ⟨3, ![2048, 2, 536]⟩
abbrev S512x1 : Shape := ⟨2, ![512, 1]⟩
abbrev S25 : Shape := ⟨1, ![25]⟩
abbrev S1x25 : Shape := ⟨2, ![1, 25]⟩
abbrev S512x25 : Shape := ⟨2, ![512, 25]⟩
abbrev S512x25x1 : Shape := ⟨3, ![512, 25, 1]⟩
abbrev S2048x2x512x25 : Shape := ⟨4, ![2048, 2, 512, 25]⟩
abbrev S2048x2x25 : Shape := ⟨3, ![2048, 2, 25]⟩
abbrev S2048x512 : Shape := ⟨2, ![2048, 512]⟩
abbrev S2048x96x512 : Shape := ⟨3, ![2048, 96, 512]⟩
abbrev S2048x96 : Shape := ⟨2, ![2048, 96]⟩
abbrev S32x64x96 : Shape := ⟨3, ![32, 64, 96]⟩

abbrev nBuf : Space → Nat
  | .hbm => 177
  | .vmem => 0
  | .smem => 0
  | _ => 0

abbrev hbmTy0_0 (i : Nat) : BufTy := match i % 128 with
  | 0 => ⟨S32x64x512, .f32⟩
  | 1 => ⟨S1x8x512, .f32⟩
  | 2 => ⟨S512x512, .f32⟩
  | 3 => ⟨S512, .f32⟩
  | 4 => ⟨S512x512, .f32⟩
  | 5 => ⟨S512, .f32⟩
  | 6 => ⟨S512x512, .f32⟩
  | 7 => ⟨S512, .f32⟩
  | 8 => ⟨S512x512, .f32⟩
  | 9 => ⟨S512, .f32⟩
  | 10 => ⟨S8x1x2x25, .f32⟩
  | 11 => ⟨S8, .f32⟩
  | 12 => ⟨S8x96x512, .f32⟩
  | 13 => ⟨S8x96, .f32⟩
  | 14 => ⟨S32x8x512, .f32⟩
  | 15 => ⟨S512x512, .f32⟩
  | 16 => ⟨S32x8x512, .f32⟩
  | 17 => ⟨S1x1x512, .f32⟩
  | 18 => ⟨S32x8x512, .f32⟩
  | 19 => ⟨S32x8x512, .f32⟩
  | 20 => ⟨S32x8x4x128, .f32⟩
  | 21 => ⟨S512x512, .f32⟩
  | 22 => ⟨S32x64x512, .f32⟩
  | 23 => ⟨S1x1x512, .f32⟩
  | 24 => ⟨S32x64x512, .f32⟩
  | 25 => ⟨S32x64x512, .f32⟩
  | 26 => ⟨S32x64x4x128, .f32⟩
  | 27 => ⟨S512x512, .f32⟩
  | 28 => ⟨S32x64x512, .f32⟩
  | 29 => ⟨S1x1x512, .f32⟩
  | 30 => ⟨S32x64x512, .f32⟩
  | 31 => ⟨S32x64x512, .f32⟩
  | 32 => ⟨S32x64x4x128, .f32⟩
  | 33 => ⟨S32x4x8x64, .f32⟩
  | 34 => ⟨S_, .f32⟩
  | 35 => ⟨S32x4x8x64, .f32⟩
  | 36 => ⟨S32x4x8x64, .f32⟩
  | 37 => ⟨S_, .f32⟩
  | 38 => ⟨S32x4x8, .f32⟩
  | 39 => ⟨S_, .f32⟩
  | 40 => ⟨S32x4x8, .f32⟩
  | 41 => ⟨S32x4x8, .f32⟩
  | 42 => ⟨S32x4x8x1, .f32⟩
  | 43 => ⟨S32x4x8x64, .f32⟩
  | 44 => ⟨S32x4x8x64, .f32⟩
  | 45 => ⟨S32x4x8x64, .f32⟩
  | 46 => ⟨S_, .f32⟩
  | 47 => ⟨S32x4x8, .f32⟩
  | 48 => ⟨S32x4x8x1, .f32⟩
  | 49 => ⟨S32x4x8x64, .f32⟩
  | 50 => ⟨S32x4x8x64, .f32⟩
  | 51 => ⟨S32x4x128x8, .f32⟩
  | 52 => ⟨S32x8x4x128, .f32⟩
  | 53 => ⟨S32x8x512, .f32⟩
  | 54 => ⟨S512x512, .f32⟩
  | 55 => ⟨S32x8x512, .f32⟩
  | 56 => ⟨S1x1x512, .f32⟩
  | 57 => ⟨S32x8x512, .f32⟩
  | 58 => ⟨S32x8x512, .f32⟩
  | 59 => ⟨S32x8x64, .f32⟩
  | 60 => ⟨S32x8x512, .f32⟩
  | 61 => ⟨S_, .f32⟩
  | 62 => ⟨S32x8, .f32⟩
  | 63 => ⟨S32x8x1, .f32⟩
  | 64 => ⟨S32x8x1, .f32⟩
  | 65 => ⟨S32x64x512, .f32⟩
  | 66 => ⟨S_, .f32⟩
  | 67 => ⟨S32x64, .f32⟩
  | 68 => ⟨S32x64x1, .f32⟩
  | 69 => ⟨S32x64x1, .f32⟩
  | 70 => ⟨S32x1x64, .f32⟩
  | 71 => ⟨S32x8x64, .f32⟩
  | 72 => ⟨S32x8x64, .f32⟩
  | 73 => ⟨S32x8x64, .f32⟩
  | 74 => ⟨S32x8x64, .f32⟩
  | 75 => ⟨S_, .f32⟩
  | 76 => ⟨S32x8x64, .f32⟩
  | 77 => ⟨S32x8x64, .f32⟩
  | 78 => ⟨S_, .f32⟩
  | 79 => ⟨S32x8x64, .f32⟩
  | 80 => ⟨S32x8x64, .f32⟩
  | 81 => ⟨S32x8x64, .i32⟩
  | 82 => ⟨S_, .f32⟩
  | 83 => ⟨S_, .i32⟩
  | 84 => ⟨S32x64, .f32⟩
  | 85 => ⟨S32x64, .i32⟩
  | 86 => ⟨S32x64x1, .i32⟩
  | 87 => ⟨S_, .i32⟩
  | 88 => ⟨S32x64x1, .i32⟩
  | 89 => ⟨S32x64x1, .i1⟩
  | 90 => ⟨S_, .i32⟩
  | 91 => ⟨S32x64x1, .i32⟩
  | 92 => ⟨S32x64x1, .i32⟩
  | 93 => ⟨S32x64x1, .i32⟩
  | 94 => ⟨S1, .i32⟩
  | 95 => ⟨S_, .i32⟩
  | 96 => ⟨S32x64x1, .i32⟩
  | 97 => ⟨S32x64x1, .i1⟩
  | 98 => ⟨S1x1x1, .i32⟩
  | 99 => ⟨S32x64x1, .i32⟩
  | 100 => ⟨S32x64x1, .i1⟩
  | 101 => ⟨S32x64x1, .i1⟩
  | 102 => ⟨S_, .i1⟩
  | 103 => ⟨S32x64, .i1⟩
  | 104 => ⟨S32x64x512, .f32⟩
  | 105 => ⟨S32x64x512, .i1⟩
  | 106 => ⟨S_, .f32⟩
  | 107 => ⟨S32x64x512, .f32⟩
  | 108 => ⟨S32x64x512, .f32⟩
  | 109 => ⟨S32x64x1x512, .f32⟩
  | 110 => ⟨S32x64x1x512, .f32⟩
  | 111 => ⟨S32x64x2x512, .f32⟩
  | 112 => ⟨S2048x2x512, .f32⟩
  | 113 => ⟨S2048, .i32⟩
  | 114 => ⟨S_, .i32⟩
  | 115 => ⟨S2048, .i32⟩
  | 116 => ⟨S2048, .i1⟩
  | 117 => ⟨S_, .i32⟩
  | 118 => ⟨S2048, .i32⟩
  | 119 => ⟨S2048, .i32⟩
  | 120 => ⟨S2048, .i32⟩
  | 121 => ⟨S2048x1, .i32⟩
  | 122 => ⟨S2048x1x2x25, .f32⟩
  | 123 => ⟨S_, .i32⟩
  | 124 => ⟨S2048, .i32⟩
  | 125 => ⟨S2048, .i1⟩
  | 126 => ⟨S_, .i32⟩
  | 127 => ⟨S2048, .i32⟩
  | _ => ⟨S32x64x512, .f32⟩

abbrev hbmTy0_1 (i : Nat) : BufTy := match i % 128 with
  | 0 => ⟨S2048, .i32⟩
  | 1 => ⟨S2048, .i32⟩
  | 2 => ⟨S2048x1, .i32⟩
  | 3 => ⟨S2048, .f32⟩
  | 4 => ⟨S_, .i32⟩
  | 5 => ⟨S_, .f32⟩
  | 6 => ⟨S2048x2x536, .f32⟩
  | 7 => ⟨S512, .i32⟩
  | 8 => ⟨S512x1, .i32⟩
  | 9 => ⟨S25, .i32⟩
  | 10 => ⟨S1x25, .i32⟩
  | 11 => ⟨S512x25, .i32⟩
  | 12 => ⟨S512x25, .i32⟩
  | 13 => ⟨S512x25, .i32⟩
  | 14 => ⟨S_, .i32⟩
  | 15 => ⟨S512x25, .i32⟩
  | 16 => ⟨S512x25, .i1⟩
  | 17 => ⟨S_, .i32⟩
  | 18 => ⟨S512x25, .i32⟩
  | 19 => ⟨S512x25, .i32⟩
  | 20 => ⟨S512x25, .i32⟩
  | 21 => ⟨S512x25x1, .i32⟩
  | 22 => ⟨S2048x2x512x25, .f32⟩
  | 23 => ⟨S2048x2x25, .f32⟩
  | 24 => ⟨S2048x512, .f32⟩
  | 25 => ⟨S2048x1, .f32⟩
  | 26 => ⟨S2048x512, .f32⟩
  | 27 => ⟨S2048x512, .f32⟩
  | 28 => ⟨S_, .i32⟩
  | 29 => ⟨S2048, .i32⟩
  | 30 => ⟨S2048, .i1⟩
  | 31 => ⟨S_, .i32⟩
  | 32 => ⟨S2048, .i32⟩
  | 33 => ⟨S2048, .i32⟩
  | 34 => ⟨S2048, .i32⟩
  | 35 => ⟨S2048x1, .i32⟩
  | 36 => ⟨S2048x96x512, .f32⟩
  | 37 => ⟨S_, .i32⟩
  | 38 => ⟨S2048, .i32⟩
  | 39 => ⟨S2048, .i1⟩
  | 40 => ⟨S_, .i32⟩
  | 41 => ⟨S2048, .i32⟩
  | 42 => ⟨S2048, .i32⟩
  | 43 => ⟨S2048, .i32⟩
  | 44 => ⟨S2048x1, .i32⟩
  | 45 => ⟨S2048x96, .f32⟩
  | 46 => ⟨S2048x96, .f32⟩
  | 47 => ⟨S2048x96, .f32⟩
  | 48 => ⟨S32x64x96, .f32⟩
  | _ => ⟨S32x64x512, .f32⟩

abbrev hbmTy (i : Nat) : BufTy := match i / 128 with
  | 0 => hbmTy0_0 i
  | 1 => hbmTy0_1 i
  | _ => ⟨S32x64x512, .f32⟩

abbrev bufTy : (tb : Table) → Fin (tcTables nBuf tb) → BufTy
  | .hbm, ⟨i, _⟩ => hbmTy i
  | _, _ => ⟨S32x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_v21 : Ref sig .tc := ⟨.hbm, 36, rfl⟩
abbrev main_cst_0 : Ref sig .tc := ⟨.hbm, 37, rfl⟩
abbrev main_v22 : Ref sig .tc := ⟨.hbm, 38, rfl⟩
abbrev main_cst_1 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_call0_v0 : Ref sig .tc := ⟨.hbm, 60, rfl⟩
abbrev main_call0_cst : Ref sig .tc := ⟨.hbm, 61, rfl⟩
abbrev main_call0_v1 : Ref sig .tc := ⟨.hbm, 62, rfl⟩
abbrev main_call0_v2 : Ref sig .tc := ⟨.hbm, 63, rfl⟩
abbrev main_v42 : Ref sig .tc := ⟨.hbm, 64, rfl⟩
abbrev main_call1_v0 : Ref sig .tc := ⟨.hbm, 65, rfl⟩
abbrev main_call1_cst : Ref sig .tc := ⟨.hbm, 66, rfl⟩
abbrev main_call1_v1 : Ref sig .tc := ⟨.hbm, 67, rfl⟩
abbrev main_call1_v2 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_3 : Ref sig .tc := ⟨.hbm, 75, rfl⟩
abbrev main_v49 : Ref sig .tc := ⟨.hbm, 76, rfl⟩
abbrev main_v50 : Ref sig .tc := ⟨.hbm, 77, rfl⟩
abbrev main_cst_4 : Ref sig .tc := ⟨.hbm, 78, rfl⟩
abbrev main_v51 : Ref sig .tc := ⟨.hbm, 79, rfl⟩
abbrev main_v52 : Ref sig .tc := ⟨.hbm, 80, rfl⟩
abbrev main_call2_v0 : Ref sig .tc := ⟨.hbm, 81, rfl⟩
abbrev main_call2_cst : Ref sig .tc := ⟨.hbm, 82, rfl⟩
abbrev main_call2_c : Ref sig .tc := ⟨.hbm, 83, rfl⟩
abbrev main_call2_v1_0 : Ref sig .tc := ⟨.hbm, 84, rfl⟩
abbrev main_v53 : Ref sig .tc := ⟨.hbm, 85, rfl⟩
abbrev main_v54 : Ref sig .tc := ⟨.hbm, 86, rfl⟩
abbrev main_call3_c : Ref sig .tc := ⟨.hbm, 87, rfl⟩
abbrev main_call3_v0 : Ref sig .tc := ⟨.hbm, 88, rfl⟩
abbrev main_call3_v1 : Ref sig .tc := ⟨.hbm, 89, rfl⟩
abbrev main_call3_c_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_c_1 : Ref sig .tc := ⟨.hbm, 94, rfl⟩
abbrev main_call3_c_2 : Ref sig .tc := ⟨.hbm, 95, rfl⟩
abbrev main_call3_v5 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_call3_c_3 : Ref sig .tc := ⟨.hbm, 102, rfl⟩
abbrev main_call3_v11 : Ref sig .tc := ⟨.hbm, 103, rfl⟩
abbrev main_call3_v12 : Ref sig .tc := ⟨.hbm, 104, rfl⟩
abbrev main_call3_v13 : Ref sig .tc := ⟨.hbm, 105, rfl⟩
abbrev main_call3_cst : Ref sig .tc := ⟨.hbm, 106, rfl⟩
abbrev main_call3_v14 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_c : Ref sig .tc := ⟨.hbm, 114, rfl⟩
abbrev main_v61 : Ref sig .tc := ⟨.hbm, 115, rfl⟩
abbrev main_v62 : Ref sig .tc := ⟨.hbm, 116, rfl⟩
abbrev main_c_5 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_c_6 : Ref sig .tc := ⟨.hbm, 123, rfl⟩
abbrev main_v68 : Ref sig .tc := ⟨.hbm, 124, rfl⟩
abbrev main_v69 : Ref sig .tc := ⟨.hbm, 125, rfl⟩
abbrev main_c_7 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_c_8 : Ref sig .tc := ⟨.hbm, 132, rfl⟩
abbrev main_call4_v0 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_c_9 : Ref sig .tc := ⟨.hbm, 142, rfl⟩
abbrev main_v83 : Ref sig .tc := ⟨.hbm, 143, rfl⟩
abbrev main_v84 : Ref sig .tc := ⟨.hbm, 144, rfl⟩
abbrev main_c_10 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_c_11 : Ref sig .tc := ⟨.hbm, 156, rfl⟩
abbrev main_v95 : Ref sig .tc := ⟨.hbm, 157, rfl⟩
abbrev main_v96 : Ref sig .tc := ⟨.hbm, 158, rfl⟩
abbrev main_c_12 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_c_13 : Ref sig .tc := ⟨.hbm, 165, rfl⟩
abbrev main_v102 : Ref sig .tc := ⟨.hbm, 166, rfl⟩
abbrev main_v103 : Ref sig .tc := ⟨.hbm, 167, rfl⟩
abbrev main_c_14 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩

abbrev nD : Nat := 1
abbrev τ : Topo := Topo.v7x

variable {F : FTy → Type} [FloatOps F]
-- ==== Proof.RefFrame.lean ====
/-
  The reference program runs: it ends, leaves its arguments as they were, and every counter at zero.
-/
module

public import proofs.«01_k».proof.Defs
public import proofs.«01_k».proof.Proof.Gen.ReferenceIdeal
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.RefFrame

/-- The reference ends, and its fourteen arguments end as they began. -/
theorem frame_r : Cert.quiescent_ReferenceIdeal := by
  intro m g _
  hlo_run
  · exact fun _ => by simp only [and_self]
  · exact sem_eq_zero_of_no_sems (sig := Cert.ReferenceIdeal.sig) (by decide) _

end Cert.Proof.RefFrame

end
-- ==== Proof.Reads.lean ====
module

public import proofs.«01_k».proof.Proof.Gen.KernelIdeal.Value
public import Idealize.ShloMosaic.Lib.Pipeline.ValueKit

/-! What each window of the launch holds at a grid point: the four batches of that point, or the whole of a small array. -/

@[expose] public section
set_option maxRecDepth 16384
noncomputable section
namespace Cert.KernelIdeal.Reads
open Cert.KernelIdeal Cert.KernelIdeal.Gen Idealize.ShloMosaic Idealize.ShloMosaic.TcCoe Idealize.SL.Sem
variable (m : (ℓ : Loc nD τ sig) → Buf (Elt Ideal) ℓ)

/-- Windows 0, 15 and 16 follow the grid along the batches. -/
theorem idxMoving : ∀ t : Fin cfg0.N, win0_0.index t = ![t.val, 0, 0] ∧ win0_15.index t = ![t.val, 0, 0] ∧
    win0_16.index t = ![t.val, 0, 0] :=
  (by decide +kernel : ∀ t : Fin grid0.N, win0_0.index t = ![t.val, 0, 0] ∧ win0_15.index t = ![t.val, 0, 0] ∧
    win0_16.index t = ![t.val, 0, 0])

/-- The other windows stay at their array's one block. -/
theorem idxFixed : ∀ t : Fin cfg0.N, win0_1.index t = ![0, 0, 0] ∧ win0_2.index t = ![0, 0] ∧ win0_3.index t = ![0, 0] ∧
    win0_4.index t = ![0, 0] ∧ win0_5.index t = ![0, 0] ∧ win0_6.index t = ![0, 0] ∧ win0_7.index t = ![0, 0] ∧
    win0_8.index t = ![0, 0] ∧ win0_9.index t = ![0, 0] ∧ win0_10.index t = ![0, 0] ∧ win0_11.index t = ![0, 0] ∧
    win0_12.index t = ![0, 0] ∧ win0_13.index t = ![0, 0] ∧ win0_14.index t = ![0, 0] :=
  (by decide +kernel : ∀ t : Fin grid0.N, win0_1.index t = ![0, 0, 0] ∧ win0_2.index t = ![0, 0] ∧ win0_3.index t = ![0, 0] ∧
    win0_4.index t = ![0, 0] ∧ win0_5.index t = ![0, 0] ∧ win0_6.index t = ![0, 0] ∧ win0_7.index t = ![0, 0] ∧
    win0_8.index t = ![0, 0] ∧ win0_9.index t = ![0, 0] ∧ win0_10.index t = ![0, 0] ∧ win0_11.index t = ![0, 0] ∧
    win0_12.index t = ![0, 0] ∧ win0_13.index t = ![0, 0] ∧ win0_14.index t = ![0, 0])

/-- A batch of a grid point. -/
def batch (t : Fin cfg0.N) (b : Fin 4) : Fin 32 := ⟨t.val * 4 + b.val, by have : cfg0.N = 8 := N_0; omega⟩

/-- The inputs of the four batches of a point. -/
theorem read0 (c : Dev nD) (t : Fin cfg0.N) (b : Fin 4) (s : Fin 64) (j : Fin 512) :
    iblk m c 0 t (ix3 b s j) = V m c main_arg0 (ix3 (batch t b) s j) := by
  blk_ext [iblk, idxMoving t, batch]

/-- The one-hot rows of the four batches of a point. -/
theorem read15 (c : Dev nD) (t : Fin cfg0.N) (b : Fin 4) (s : Fin 64) (e : Fin 8) :
    iblk m c 15 t (ix3 b s e) = V m c main_v66 (ix3 (batch t b) s e) := by
  blk_ext [iblk, idxMoving t, batch]

/-- The queries. -/
theorem read1 (c : Dev nD) (t : Fin cfg0.N) (e : Fin 8) (j : Fin 512) :
    iblk m c 1 t (ix3 0 e j) = V m c main_arg1 (ix3 0 e j) := by
  blk_ext [iblk, idxFixed t]

set_option maxHeartbeats 2000000 in
/-- The four square weights of the attention. -/
theorem readSquare (c : Dev nD) (t : Fin cfg0.N) (l j : Fin 512) :
    iblk m c 2 t (ix2 l j) = V m c main_arg2 (ix2 l j) ∧ iblk m c 4 t (ix2 l j) = V m c main_arg4 (ix2 l j) ∧
    iblk m c 6 t (ix2 l j) = V m c main_arg6 (ix2 l j) ∧ iblk m c 8 t (ix2 l j) = V m c main_arg8 (ix2 l j) := by
  refine ⟨?_, ?_, ?_, ?_⟩ <;> blk_ext [iblk, idxFixed t]

set_option maxHeartbeats 2000000 in
/-- The four biases of the attention. -/
theorem readRow (c : Dev nD) (t : Fin cfg0.N) (l : Fin 512) :
    iblk m c 3 t (ix2 0 l) = V m c main_v67 (ix2 0 l) ∧ iblk m c 5 t (ix2 0 l) = V m c main_v68 (ix2 0 l) ∧
    iblk m c 7 t (ix2 0 l) = V m c main_v69 (ix2 0 l) ∧ iblk m c 9 t (ix2 0 l) = V m c main_v70 (ix2 0 l) := by
  refine ⟨?_, ?_, ?_, ?_⟩ <;> blk_ext [iblk, idxFixed t]

/-- The taps over the tokens. -/
theorem read10 (c : Dev nD) (t : Fin cfg0.N) (e : Fin 8) (k : Fin 25) :
    iblk m c 10 t (ix2 e k) = V m c main_v72 (ix2 e k) := by
  blk_ext [iblk, idxFixed t]

/-- The taps over the attention rows. -/
theorem read11 (c : Dev nD) (t : Fin cfg0.N) (r : Fin 32) (k : Fin 25) :
    iblk m c 11 t (ix2 r k) = V m c main_v77 (ix2 r k) := by
  blk_ext [iblk, idxFixed t]

/-- The convolution biases. -/
theorem read12 (c : Dev nD) (t : Fin cfg0.N) (r : Fin 32) : iblk m c 12 t (ix2 r 0) = V m c main_v81 (ix2 r 0) := by
  blk_ext [iblk, idxFixed t]

/-- The prediction weights. -/
theorem read13 (c : Dev nD) (t : Fin cfg0.N) (r : Fin 768) (l : Fin 512) :
    iblk m c 13 t (ix2 r l) = V m c main_v82 (ix2 r l) := by
  blk_ext [iblk, idxFixed t]

/-- The prediction biases. -/
theorem read14 (c : Dev nD) (t : Fin cfg0.N) (e : Fin 8) (p : Fin 96) :
    iblk m c 14 t (ix2 e p) = V m c main_arg13 (ix2 e p) := by
  blk_ext [iblk, idxFixed t]

end Cert.KernelIdeal.Reads
end
-- ==== Proof.Body.lean ====
module

public import proofs.«01_k».proof.Proof.Gen.KernelIdeal.Value
public import Idealize.ShloMosaic.Lib.Pipeline.ValueKit
public import Idealize.ShloMosaic.Lib.Pipeline.ReadBack

/-! What one step of the kernel computes, cut at the steps of the algorithm: the attention over the eight router tokens
    head by head, the padded rows kept in scratch, the two chains of 25 convolution taps, and the prediction. -/

@[expose] public section
set_option maxRecDepth 16384
noncomputable section
namespace Cert.KernelIdeal.Body
open Cert.KernelIdeal Cert.KernelIdeal.Gen Idealize.ShloMosaic Idealize.ShloMosaic.TcCoe Idealize.SL.Sem

/-! ## The cuts lie inside their vectors -/

/-- The columns of one head of the queries. -/
theorem cut_q : ∀ h : Fin 4, S8x512.Slices ![0, h.val * 128] S8x128 := by decide +kernel
/-- The columns of one head of the keys. -/
theorem cut_k : ∀ h : Fin 4, S256x512.Slices ![0, h.val * 128] S256x128 := by decide +kernel
/-- The rows of one batch and the columns of one head of the values. -/
theorem cut_v : ∀ h b : Fin 4, S256x512.Slices ![b.val * 64, h.val * 128] S64x128 := by decide +kernel
/-- The columns of one batch of the scores. -/
theorem cut_s : ∀ b : Fin 4, S8x256.Slices ![0, b.val * 64] S8x64 := by decide +kernel
/-- The columns of one head of the output weights. -/
theorem cut_w : ∀ (h : Fin 4) (a), (![0, h.val * 128] : Fin 2 → Nat) a + S512x128.size a ≤ S512x512.size a := by decide +kernel
/-- The window of a tap in the padded token rows. -/
theorem cut_x : ∀ (b : Fin 4) (k : Fin 25) (a),
    (![b.val * 64, 116 + k.val] : Fin 2 → Nat) a + S64x512.size a ≤ S256x768.size a := by decide +kernel
/-- The window of a tap in the padded attention rows. -/
theorem cut_z : ∀ (k : Fin 25) (a), (![0, 116 + k.val] : Fin 2 → Nat) a + S32x512.size a ≤ S32x768.size a := by decide +kernel
/-- One tap's column of the expert weights. -/
theorem cut_cz : ∀ (k : Fin 25) (a), (![0, k.val] : Fin 2 → Nat) a + S32x1.size a ≤ S32x25.size a := by decide +kernel
/-- One tap's column and one batch's rows of the selected weights. -/
theorem cut_cx : ∀ (b : Fin 4) (k : Fin 25), S256x25.Slices ![b.val * 64, k.val] S64x1 := by decide +kernel
/-- One batch's rows of the one-hot rows. -/
theorem cut_oh : ∀ b : Fin 4, S256x8.Slices ![b.val * 64, 0] S64x8 := by decide +kernel
/-- One batch's rows of the convolved attention rows. -/
theorem cut_zc : ∀ b : Fin 4, S32x512.Slices ![b.val * 8, 0] S8x512 := by decide +kernel
/-- One expert's column of the one-hot rows. -/
theorem cut_oc : ∀ c : Fin 8, S256x8.Slices ![0, c.val] S256x1 := by decide +kernel
/-- One expert's columns of the prediction against all experts. -/
theorem cut_f : ∀ c : Fin 8, S256x768.Slices ![0, c.val * 96] S256x96 := by decide +kernel

/-! ## The attention -/

/-- The scaled scores of head `h`: eight router rows against 256 token rows. -/
def scoresV (h : Fin 4) (q : FVec Ideal S8x512 .f32) (k : FVec Ideal S256x512 .f32) : FVec Ideal S8x256 .f32 :=
  mulf (matmul dot_S8x128_S256x128_S8x256_1_1_0_0_n_n none
      (truncf .bf16 (extractStridedSlice S8x128 ![0, h.val * 128] q (cut_q h)) bitsLt_bf16_f32)
      (truncf .bf16 (extractStridedSlice S256x128 ![0, h.val * 128] k (cut_k h)) bitsLt_bf16_f32)
      (constant S8x256 .f32 0x00000000#32))
    (broadcast S8x256 (Scalar.ofBits .f32 0x3DB504F3#32))

/-- The exponentials of one batch's scores, the row's maximum taken off. -/
def expV (s : FVec Ideal S8x64 .f32) : FVec Ideal S8x64 .f32 :=
  exp (subf s (broadcastTo S8x64
    (shapeCast S8x1 (multiReduction .maximumf [1] S8 s 0xFF800000#32 reduces_S8x64_S8 (.inl rfl) rfl) shapeCasts_S8_S8x1)
    broadcasts_S8x1_S8x64))

/-- A row divided by its sum. -/
def normV (e : FVec Ideal S8x64 .f32) : FVec Ideal S8x64 .f32 :=
  divf e (broadcastTo S8x64
    (shapeCast S8x1 (multiReduction .add [1] S8 e 0x00000000#32 reduces_S8x64_S8 (.inl rfl) rfl) shapeCasts_S8_S8x1)
    broadcasts_S8x1_S8x64)

/-- One batch and one head: the softmax of the scores against the values. -/
def mixV (h b : Fin 4) (s : FVec Ideal S8x256 .f32) (v : FVec Ideal S256x512 .f32) : FVec Ideal S8x128 .f32 :=
  matmul dot_S8x64_S64x128_S8x128_1_0_0_1_n_n none
    (truncf .bf16 (normV (expV (extractStridedSlice S8x64 ![0, b.val * 64] s (cut_s b)))) bitsLt_bf16_f32)
    (truncf .bf16 (extractStridedSlice S64x128 ![b.val * 64, h.val * 128] v (cut_v h b)) bitsLt_bf16_f32)
    (constant S8x128 .f32 0x00000000#32)

/-- Head `h`'s part of the attention output, added on. -/
def headV (h : Fin 4) (q : FVec Ideal S8x512 .f32) (k v : FVec Ideal S256x512 .f32) (wo : Vec Ideal S512x512 .f32)
    (acc : FVec Ideal S32x512 .f32) : FVec Ideal S32x512 .f32 :=
  addf acc (matmul dot_S32x128_S512x128_S32x512_1_1_0_0_n_n none
    (truncf .bf16 (concatenate S32x128 0 [⟨S8x128, mixV h 0 (scoresV h q k) v⟩, ⟨S8x128, mixV h 1 (scoresV h q k) v⟩,
      ⟨S8x128, mixV h 2 (scoresV h q k) v⟩, ⟨S8x128, mixV h 3 (scoresV h q k) v⟩]
      concatenates_S8x128_S8x128_S8x128_S8x128_S32x128_d0) bitsLt_bf16_f32)
    (truncf .bf16 (View.ld wo (Rect.unit (s := S512x512) ![0, h.val * 128] ![512, 128] (cut_w h)) : FVec Ideal S512x128 .f32)
      bitsLt_bf16_f32)
    (constant S32x512 .f32 0x00000000#32))

/-- The attention output rows of the step's four batches. -/
def attV (x0 : Vec Ideal S4x64x512 .f32) (x1 : Vec Ideal S1x8x512 .f32) (x2 : Vec Ideal S512x512 .f32) (x3 : Vec Ideal S1x512 .f32)
    (x4 : Vec Ideal S512x512 .f32) (x5 : Vec Ideal S1x512 .f32) (x6 : Vec Ideal S512x512 .f32) (x7 : Vec Ideal S1x512 .f32)
    (x8 : Vec Ideal S512x512 .f32) (x9 : Vec Ideal S1x512 .f32) : FVec Ideal S32x512 .f32 :=
  headV 3 (k0_pay2 x1 x2 x3) (k0_pay3 x0 x4 x5) (k0_pay4 x0 x6 x7) x8
    (headV 2 (k0_pay2 x1 x2 x3) (k0_pay3 x0 x4 x5) (k0_pay4 x0 x6 x7) x8
      (headV 1 (k0_pay2 x1 x2 x3) (k0_pay3 x0 x4 x5) (k0_pay4 x0 x6 x7) x8
        (headV 0 (k0_pay2 x1 x2 x3) (k0_pay3 x0 x4 x5) (k0_pay4 x0 x6 x7) x8 (k0_pay5 x9))))

/-! ## The convolution -/

/-- The first `n` of 25 terms `p k * w k` added to `acc` in order. -/
def chain {S : Shape} (p w : Fin 25 → FVec Ideal S .f32) (acc : FVec Ideal S .f32) : (n : Nat) → n ≤ 25 → FVec Ideal S .f32
  | 0, _ => acc
  | n + 1, h => addf (chain p w acc n (Nat.le_of_succ_le h)) (mulf (p ⟨n, h⟩) (w ⟨n, h⟩))

/-- The window of tap `k` read back from the padded attention rows. -/
def tapZ (z : FVec Ideal S32x512 .f32) (k : Fin 25) : FVec Ideal S32x512 .f32 :=
  (View.whole cc0_scratch1).readCov (Val := Elt Ideal)
    [⟨Rect.unit ![0, 128] ![32, 512] inb_S32x768_S32x512_0_128, k0_pay37 z⟩,
      ⟨Rect.unit ![0, 0] ![32, 768] inb_S32x768_S32x768_0_0, k0_pay36 (F := Ideal)⟩]
    (Rect.unit (s := S32x768) ![0, 116 + k.val] ![32, 512] (cut_z k)).toLoadRect

/-- The window of tap `k` of batch `b` read back from the padded token rows. -/
def tapX (x : FVec Ideal S256x512 .f32) (b : Fin 4) (k : Fin 25) : FVec Ideal S64x512 .f32 :=
  (View.whole cc0_scratch0).readCov (Val := Elt Ideal)
    [⟨Rect.unit ![0, 128] ![256, 512] inb_S256x768_S256x512_0_128, k0_pay35 x⟩,
      ⟨Rect.unit ![0, 0] ![256, 768] inb_S256x768_S256x768_0_0, k0_pay34 (F := Ideal)⟩]
    (Rect.unit (s := S256x768) ![b.val * 64, 116 + k.val] ![64, 512] (cut_x b k)).toLoadRect

/-- A column spread over the 512 positions of the attention rows. -/
def spreadZ (w : Vec Ideal S32x1 .f32) : FVec Ideal S32x512 .f32 :=
  broadcastTo S32x512 (shapeCast S32x1 w shapeCasts_S32x1_S32x1) broadcasts_S32x1_S32x512

/-- The convolution of the attention rows. -/
def zconvV (z : FVec Ideal S32x512 .f32) (x11 : Vec Ideal S32x25 .f32) (x12 : Vec Ideal S32x1 .f32) : FVec Ideal S32x512 .f32 :=
  chain (tapZ z) (fun k => spreadZ (View.ld x11 (Rect.unit (s := S32x25) ![0, k.val] ![32, 1] (cut_cz k))))
    (broadcastTo S32x512 (shapeCast S32x1 (shapeCast S32x1 x12 shapeCasts_S32x1_S32x1) shapeCasts_S32x1_S32x1)
      broadcasts_S32x1_S32x512) 25 (Nat.le_refl 25)

/-- The convolution of one batch: the selected attention row's part, then the token rows' taps. -/
def convV (b : Fin 4) (x : FVec Ideal S256x512 .f32) (oh : FVec Ideal S256x8 .f32) (ws : FVec Ideal S256x25 .f32)
    (zc : FVec Ideal S32x512 .f32) : FVec Ideal S64x512 .f32 :=
  chain (tapX x b) (fun k => broadcastTo S64x512 (extractStridedSlice S64x1 ![b.val * 64, k.val] ws (cut_cx b k)) broadcasts_S64x1_S64x512)
    (matmul dot_S64x8_S8x512_S64x512_1_0_0_1_n_n none
      (truncf .bf16 (extractStridedSlice S64x8 ![b.val * 64, 0] oh (cut_oh b)) bitsLt_bf16_f32)
      (truncf .bf16 (extractStridedSlice S8x512 ![b.val * 8, 0] zc (cut_zc b)) bitsLt_bf16_f32)
      (constant S64x512 .f32 0x00000000#32)) 25 (Nat.le_refl 25)

/-! ## The prediction -/

/-- The prediction of every token against every expert. -/
def fullV (c0 c1 c2 c3 : FVec Ideal S64x512 .f32) (x13 : Vec Ideal S768x512 .f32) : FVec Ideal S256x768 .f32 :=
  matmul dot_S256x512_S768x512_S256x768_1_1_0_0_n_n none
    (truncf .bf16 (concatenate S256x512 0 [⟨S64x512, c0⟩, ⟨S64x512, c1⟩, ⟨S64x512, c2⟩, ⟨S64x512, c3⟩]
      concatenates_S64x512_S64x512_S64x512_S64x512_S256x512_d0) bitsLt_bf16_f32)
    (truncf .bf16 (shapeCast S768x512 x13 shapeCasts_S768x512_S768x512) bitsLt_bf16_f32)
    (constant S256x768 .f32 0x00000000#32)

/-- The first `n` experts' predictions, each weighted by its one-hot column, added to the bias. -/
def pickV (oh : FVec Ideal S256x8 .f32) (full : FVec Ideal S256x768 .f32) (acc : FVec Ideal S256x96 .f32) :
    (n : Nat) → n ≤ 8 → FVec Ideal S256x96 .f32
  | 0, _ => acc
  | n + 1, h => addf (pickV oh full acc n (Nat.le_of_succ_le h))
      (mulf (broadcastTo S256x96 (extractStridedSlice S256x1 ![0, (⟨n, h⟩ : Fin 8).val] oh (cut_oc ⟨n, h⟩)) broadcasts_S256x1_S256x96)
        (extractStridedSlice S256x96 ![0, (⟨n, h⟩ : Fin 8).val * 96] full (cut_f ⟨n, h⟩)))

/-- The block one step writes, of its sixteen input blocks. -/
def blockV (x0 : Vec Ideal S4x64x512 .f32) (x1 : Vec Ideal S1x8x512 .f32) (x2 : Vec Ideal S512x512 .f32) (x3 : Vec Ideal S1x512 .f32)
    (x4 : Vec Ideal S512x512 .f32) (x5 : Vec Ideal S1x512 .f32) (x6 : Vec Ideal S512x512 .f32) (x7 : Vec Ideal S1x512 .f32)
    (x8 : Vec Ideal S512x512 .f32) (x9 : Vec Ideal S1x512 .f32) (x10 : Vec Ideal S8x25 .f32) (x11 : Vec Ideal S32x25 .f32)
    (x12 : Vec Ideal S32x1 .f32) (x13 : Vec Ideal S768x512 .f32) (x14 : Vec Ideal S8x96 .f32) (x15 : Vec Ideal S4x64x8 .f32) :
    FVec Ideal S4x64x96 .f32 :=
  let zc := zconvV (attV x0 x1 x2 x3 x4 x5 x6 x7 x8 x9) x11 x12
  let cv := fun b => convV b (k0_pay1 x0) (k0_pay33 x15) (k0_pay43 (k0_pay33 x15) x10) zc
  shapeCast S4x64x96 (pickV (k0_pay33 x15) (fullV (cv 0) (cv 1) (cv 2) (cv 3) x13)
    (matmul (φ₂ := .f32) dot_S256x8_S8x96_S256x96_1_0_0_1_n_n (some .fp32) (k0_pay33 x15) (x14 : FVec Ideal S8x96 .f32) (constant S256x96 .f32 0x00000000#32))
    8 (Nat.le_refl 8)) shapeCasts_S256x96_S4x64x96

end Cert.KernelIdeal.Body
end
-- ==== Proof.BodyEq.lean ====
module

public import proofs.«01_k».proof.Proof.Gen.KernelIdeal.Value
public import Idealize.ShloMosaic.Lib.Pipeline.ValueKit
public import Idealize.ShloMosaic.Lib.Pipeline.ReadBack
public import proofs.«01_k».proof.Proof.Body

@[expose] public section
set_option maxRecDepth 16384
noncomputable section
namespace Cert.KernelIdeal.Value
open Cert.KernelIdeal Cert.KernelIdeal.Gen Idealize.ShloMosaic Idealize.ShloMosaic.TcCoe Idealize.SL.Sem
open Idealize.ShloMosaic.Pipeline (Dat)
open Cert.KernelIdeal.Body
variable (m : (ℓ : Loc nD τ sig) → Buf (Elt Ideal) ℓ)

/-- What a grid point leaves in the output window is the block function of what its input windows hold. -/
theorem after_eq (c : Dev nD) (t : Fin cfg0.N) : (dats m 0 c).after 16 t = blockV (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by
  rw [after0_16]
  unfold outsAt0
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize iblk m c 13 t = x13
  generalize iblk m c 14 t = x14
  generalize iblk m c 15 t = x15
  frame_open
  frame_out
  rfl
end Cert.KernelIdeal.Value
end
-- ==== Proof.Model.lean ====
module

public import Idealize.ShloMosaic.Lib.Pointwise

/-! The algorithm on extended reals, one batch and one token at a time: the value that both programs are read as. -/

@[expose] public section
noncomputable section
namespace Cert.Model
open Idealize.ShloMosaic

/-- Column `d` of head `h` among the 512 columns. -/
def cat (h : Fin 4) (d : Fin 128) : Fin 512 := ⟨h.val * 128 + d.val, by omega⟩

/-- A row against row `l` of a square of weights, with a bias. -/
def lin (x : Fin 512 → EReal) (w : Fin 512 → Fin 512 → EReal) (b : Fin 512 → EReal) (l : Fin 512) : EReal :=
  ∑ j, x j * w l j + b l

/-- The scaled score of head `h`, router row `c` and token `t`. -/
def sc (q : Fin 8 → Fin 512 → EReal) (k : Fin 64 → Fin 512 → EReal) (h : Fin 4) (c : Fin 8) (t : Fin 64) : EReal :=
  (∑ d, q c (cat h d) * k t (cat h d)) * Ideal.ofBits .f32 0x3DB504F3#32

/-- The exponential of a score, the row's maximum taken off. -/
def ex (s : Fin 64 → EReal) (t : Fin 64) : EReal :=
  Ideal.exp (s t - Finset.fold max (Ideal.ofBits .f32 0xFF800000#32) s Finset.univ)

/-- An exponential divided by the row's sum. -/
def sm (s : Fin 64 → EReal) (t : Fin 64) : EReal := Ideal.div (ex s t) (∑ x, ex s x)

/-- Column `d` of head `h`'s mixture of the values, for router row `c`. -/
def mx (q : Fin 8 → Fin 512 → EReal) (k v : Fin 64 → Fin 512 → EReal) (h : Fin 4) (c : Fin 8) (d : Fin 128) : EReal :=
  ∑ t, sm (sc q k h c) t * v t (cat h d)

/-- One attention output: the four heads' mixtures against the output weights, with a bias. -/
def attn (q : Fin 8 → Fin 512 → EReal) (k v : Fin 64 → Fin 512 → EReal) (w : Fin 512 → Fin 512 → EReal) (b : Fin 512 → EReal)
    (c : Fin 8) (l : Fin 512) : EReal :=
  (∑ h, ∑ d, mx q k v h c d * w l (cat h d)) + b l

/-- Tap `k` of a row at position `l`: zero outside the row. -/
def tap (f : Fin 512 → EReal) (l : Fin 512) (k : Fin 25) : EReal :=
  if h : 12 ≤ l.val + k.val ∧ l.val + k.val - 12 < 512 then f ⟨l.val + k.val - 12, h.2⟩ else 0

/-- The convolution of a token's row and its attention row. -/
def cv (x z : Fin 512 → EReal) (wx wz : Fin 25 → EReal) (b : EReal) (l : Fin 512) : EReal :=
  ((∑ k, tap x l k * wx k) + ∑ k, tap z l k * wz k) + b

/-- One prediction. -/
def out (x z : Fin 512 → EReal) (wx wz : Fin 25 → EReal) (b : EReal) (wp : Fin 512 → EReal) (bp : EReal) : EReal :=
  (∑ l, cv x z wx wz b l * wp l) + bp

/-- A sum over the 512 columns is a sum over the heads of the sums over their columns. -/
theorem sum_cat (f : Fin 512 → EReal) : ∑ j, f j = ∑ h, ∑ d, f (cat h d) := by
  rw [← (finProdFinEquiv (m := 4) (n := 128)).sum_comp f, Fintype.sum_prod_type]
  refine Finset.sum_congr rfl fun h _ => Finset.sum_congr rfl fun d _ => congrArg f (Fin.ext ?_)
  simp only [finProdFinEquiv_apply_val, cat]
  omega

/-- The running maximum is not below the value it starts from. -/
theorem max_fold {n : Nat} (i : EReal) (f : Fin n → EReal) :
    max i (Finset.fold max i f Finset.univ) = Finset.fold max i f Finset.univ :=
  max_eq_right ((Finset.le_fold_max i).mpr (Or.inl (le_refl i)))

/-- A sum of terms weighted by a one-hot row is the chosen term. -/
theorem sum_hot {n : Nat} (e : Fin n) (f : Fin n → EReal) : ∑ c, (if c = e then (1 : EReal) else 0) * f c = f e := by
  simp only [ite_mul, one_mul, zero_mul, Finset.sum_ite_eq', Finset.mem_univ, if_true]

end Cert.Model
end
-- ==== Proof.Taps.lean ====
module

public import proofs.«01_k».proof.Proof.Body
public import proofs.«01_k».proof.Proof.Model
public import Idealize.ShloMosaic.Lib.Pointwise

/-! The padded rows read back from scratch, and the kernel's two running sums, at an index. -/

@[expose] public section
set_option maxRecDepth 16384
noncomputable section
namespace Cert.KernelIdeal.Body
open Cert.KernelIdeal Cert.KernelIdeal.Gen Idealize.ShloMosaic Idealize.ShloMosaic.TcCoe Idealize.SL.Sem

/-- Rows stored 128 columns into rows of zeros: the row's element, or zero beside it. -/
theorem canon_at {R : Nat} (i1 : ∀ a, (![0, 128] : Fin 2 → Nat) a + (![R, 512] : Fin 2 → Nat) a ≤ (![R, 768] : Fin 2 → Nat) a)
    (i2 : ∀ a, (![0, 0] : Fin 2 → Nat) a + (![R, 768] : Fin 2 → Nat) a ≤ (![R, 768] : Fin 2 → Nat) a)
    (w : (⟨2, ![R, 512]⟩ : Shape).Idx → Elt Ideal .f32) (Z : (⟨2, ![R, 768]⟩ : Shape).Idx → Elt Ideal .f32)
    (hZ : ∀ y, Z y = (0 : EReal)) (r : Fin R) (p : Fin 768) :
    View.canon (Val := Elt Ideal) (s := ⟨2, ![R, 768]⟩) (e := .f32)
      [⟨Rect.unit ![0, 128] ![R, 512] i1, w⟩, ⟨Rect.unit ![0, 0] ![R, 768] i2, Z⟩] (ix2 r p)
      = if h : 128 ≤ p.val ∧ p.val - 128 < 512 then w (ix2 r ⟨p.val - 128, h.2⟩) else (0 : EReal) := by
  split
  · rename_i h
    have e : ix2 r p = (Rect.unit (s := ⟨2, ![R, 768]⟩) ![0, 128] ![R, 512] i1).emb (ix2 r ⟨p.val - 128, h.2⟩) := by
      funext a
      refine Fin.ext ?_
      match a with
      | ⟨0, _⟩ => show r.val = 0 + 1 * r.val; omega
      | ⟨1, _⟩ => show p.val = 128 + 1 * (p.val - 128); omega
    rw [e]
    exact View.canon_cons_emb _ _ _ _
  · rename_i h
    rw [View.canon_cons_of_not_mem]
    · have e : ix2 r p = (Rect.unit (s := ⟨2, ![R, 768]⟩) ![0, 0] ![R, 768] i2).emb (ix2 r p) := by
        funext a
        refine Fin.ext ?_
        match a with
        | ⟨0, _⟩ => show r.val = 0 + 1 * r.val; omega
        | ⟨1, _⟩ => show p.val = 0 + 1 * p.val; omega
      rw [e, View.canon_cons_emb]
      exact hZ _
    · rintro hm
      have h2 := (Rect.mem_set_unit (inb := i1)).mp hm 1
      have h3 : 128 ≤ p.val ∧ p.val < 128 + 512 := h2
      exact h ⟨by omega, by omega⟩

/-- The window of tap `k` over the padded attention rows. -/
theorem tapZ_at (z : FVec Ideal S32x512 .f32) (k : Fin 25) (r : Fin 32) (l : Fin 512) :
    tapZ z k (ix2 r l) = Model.tap (fun j => z (ix2 r j)) l k := by
  unfold tapZ
  rw [View.readCov_eq_canon']
  have e : (Rect.unit (s := S32x768) ![0, 116 + k.val] ![32, 512] (cut_z k)).toLoadRect.idx (ix2 r l)
      = ix2 r ⟨116 + k.val + l.val, by omega⟩ := by
    funext a
    refine Fin.ext ?_
    match a with
    | ⟨0, _⟩ => show 0 + 1 * r.val = r.val; omega
    | ⟨1, _⟩ => show 116 + k.val + 1 * l.val = 116 + k.val + l.val; omega
  refine (congrArg (View.canon _) e).trans ?_
  refine (canon_at _ _ _ _ (fun y => ?_) r _).trans ?_
  · pointwise [k0_pay36]
  · unfold Model.tap
    by_cases h : 12 ≤ l.val + k.val ∧ l.val + k.val - 12 < 512
    · rw [dif_pos h, dif_pos (show 128 ≤ 116 + k.val + l.val ∧ 116 + k.val + l.val - 128 < 512 by omega)]
      pointwise [k0_pay37]
      congr 3
      omega
    · rw [dif_neg h, dif_neg (show ¬(128 ≤ 116 + k.val + l.val ∧ 116 + k.val + l.val - 128 < 512) by omega)]

/-- The window of tap `k` over one batch's padded token rows. -/
theorem tapX_at (x : FVec Ideal S256x512 .f32) (b : Fin 4) (k : Fin 25) (r : Fin 64) (l : Fin 512) :
    tapX x b k (ix2 r l) = Model.tap (fun j => x (ix2 ⟨b.val * 64 + r.val, by omega⟩ j)) l k := by
  unfold tapX
  rw [View.readCov_eq_canon']
  have e : (Rect.unit (s := S256x768) ![b.val * 64, 116 + k.val] ![64, 512] (cut_x b k)).toLoadRect.idx (ix2 r l)
      = ix2 ⟨b.val * 64 + r.val, by omega⟩ ⟨116 + k.val + l.val, by omega⟩ := by
    funext a
    refine Fin.ext ?_
    match a with
    | ⟨0, _⟩ => show b.val * 64 + 1 * r.val = b.val * 64 + r.val; omega
    | ⟨1, _⟩ => show 116 + k.val + 1 * l.val = 116 + k.val + l.val; omega
  refine (congrArg (View.canon _) e).trans ?_
  refine (canon_at _ _ _ _ (fun y => ?_) _ _).trans ?_
  · pointwise [k0_pay34]
  · unfold Model.tap
    by_cases h : 12 ≤ l.val + k.val ∧ l.val + k.val - 12 < 512
    · rw [dif_pos h, dif_pos (show 128 ≤ 116 + k.val + l.val ∧ 116 + k.val + l.val - 128 < 512 by omega)]
      pointwise [k0_pay35]
      congr 3
      omega
    · rw [dif_neg h, dif_neg (show ¬(128 ≤ 116 + k.val + l.val ∧ 116 + k.val + l.val - 128 < 512) by omega)]

/-- A chain of taps is the value it starts from plus the sum of its terms. -/
theorem chain_at {S : Shape} (p w : Fin 25 → FVec Ideal S .f32) (acc : FVec Ideal S .f32) (j : S.Idx) (n : Nat) (hn : n ≤ 25) :
    chain p w acc n hn j = (acc j + ∑ i : Fin n, p (i.castLE hn) j * w (i.castLE hn) j : EReal) := by
  induction n with
  | zero => simp [chain]
  | succ n ih => rw [Fin.sum_univ_castSucc, ← add_assoc, chain]; exact congrArg (· + _) (ih (Nat.le_of_succ_le hn))

/-- The experts' predictions, each weighted by its one-hot column: the value the sum starts from plus the weighted sum. -/
theorem pickV_at (oh : FVec Ideal S256x8 .f32) (full : FVec Ideal S256x768 .f32) (acc : FVec Ideal S256x96 .f32) (r : Fin 256)
    (p : Fin 96) (n : Nat) (hn : n ≤ 8) : pickV oh full acc n hn (ix2 r p)
      = (acc (ix2 r p) + ∑ i : Fin n, oh (ix2 r (i.castLE hn)) * full (ix2 r ⟨i.val * 96 + p.val, by omega⟩) : EReal) := by
  induction n with
  | zero => simp [pickV]
  | succ n ih =>
    rw [Fin.sum_univ_castSucc, ← add_assoc, pickV]
    pointwise
    rw [ih (Nat.le_of_succ_le hn)]
    rfl

end Cert.KernelIdeal.Body
end
-- ==== Proof.KerAt.lean ====
module

public import proofs.«01_k».proof.Proof.Taps

/-! One step of the kernel at an index, as the model's value: the attention rows, the convolutions, the block. -/

@[expose] public section
set_option maxRecDepth 16384
noncomputable section
namespace Cert.KernelIdeal.Body
open Cert.KernelIdeal Cert.KernelIdeal.Gen Idealize.ShloMosaic Idealize.ShloMosaic.TcCoe Idealize.SL.Sem

/-- The queries of a step, by router row and column. -/
abbrev qOf (x1 : Vec Ideal S1x8x512 .f32) (x2 : Vec Ideal S512x512 .f32) (x3 : Vec Ideal S1x512 .f32) (c : Fin 8) : Fin 512 → EReal :=
  Model.lin (fun j => x1 (ix3 0 c j)) (fun l j => x2 (ix2 l j)) (fun l => x3 (ix2 0 l))

/-- The keys, or the values, of one batch of a step, by token and column. -/
abbrev kOf (x0 : Vec Ideal S4x64x512 .f32) (w : Vec Ideal S512x512 .f32) (b : Vec Ideal S1x512 .f32) (i : Fin 4) (t : Fin 64) :
    Fin 512 → EReal :=
  Model.lin (fun j => x0 (ix3 i t j)) (fun l j => w (ix2 l j)) (fun l => b (ix2 0 l))

/-- The queries at an index. -/
theorem q_at (x1 : Vec Ideal S1x8x512 .f32) (x2 : Vec Ideal S512x512 .f32) (x3 : Vec Ideal S1x512 .f32) (c : Fin 8) (l : Fin 512) :
    k0_pay2 x1 x2 x3 (ix2 c l) = qOf x1 x2 x3 c l := by
  pointwise [k0_pay2]
  rfl

/-- The keys at an index. -/
theorem k_at (x0 : Vec Ideal S4x64x512 .f32) (w : Vec Ideal S512x512 .f32) (b : Vec Ideal S1x512 .f32) (i : Fin 4) (t : Fin 64)
    (l : Fin 512) : k0_pay3 x0 w b (ix2 ⟨i.val * 64 + t.val, by omega⟩ l) = kOf x0 w b i t l := by
  pointwise [k0_pay3, k0_pay1]
  rfl

/-- The values at an index. -/
theorem v_at (x0 : Vec Ideal S4x64x512 .f32) (w : Vec Ideal S512x512 .f32) (b : Vec Ideal S1x512 .f32) (i : Fin 4) (t : Fin 64)
    (l : Fin 512) : k0_pay4 x0 w b (ix2 ⟨i.val * 64 + t.val, by omega⟩ l) = kOf x0 w b i t l := by
  pointwise [k0_pay4, k0_pay1]
  rfl

/-- One batch's and one head's mixture at an index. -/
theorem mixV_at (h i : Fin 4) (q : FVec Ideal S8x512 .f32) (k v : FVec Ideal S256x512 .f32) (c : Fin 8) (d : Fin 128) :
    mixV h i (scoresV h q k) v (ix2 c d) = Model.mx (fun c l => q (ix2 c l)) (fun t l => k (ix2 ⟨i.val * 64 + t.val, by omega⟩ l))
      (fun t l => v (ix2 ⟨i.val * 64 + t.val, by omega⟩ l)) h c d := by
  pointwise [mixV, normV, expV, scoresV]
  rfl

/-- Head `h`'s part of the attention output at an index. -/
theorem headV_at (h : Fin 4) (q : FVec Ideal S8x512 .f32) (k v : FVec Ideal S256x512 .f32) (wo : Vec Ideal S512x512 .f32)
    (acc : FVec Ideal S32x512 .f32) (i : Fin 4) (c : Fin 8) (l : Fin 512) :
    headV h q k v wo acc (ix2 ⟨i.val * 8 + c.val, by omega⟩ l) = (acc (ix2 ⟨i.val * 8 + c.val, by omega⟩ l)
      + ∑ d, Model.mx (fun c l => q (ix2 c l)) (fun t l => k (ix2 ⟨i.val * 64 + t.val, by omega⟩ l))
        (fun t l => v (ix2 ⟨i.val * 64 + t.val, by omega⟩ l)) h c d * wo (ix2 l (Model.cat h d)) : EReal) := by
  pointwise [headV]
  refine congrArg (_ + ·) (Finset.sum_congr rfl fun d _ => congrArg₂ (· * ·) ?_ rfl)
  rw [← mixV_at]
  have e : ∀ j : Fin 8, j.val = c.val → ∀ o : Fin 4, i = o →
      mixV h o (scoresV h q k) v (ix2 j d) = mixV h i (scoresV h q k) v (ix2 c d) := by
    rintro j hj o rfl
    rw [Fin.ext hj]
  split
  · exact e _ (by dsimp only; omega) 0 (by omega)
  split
  · exact e _ (by dsimp only; omega) 1 (by omega)
  split
  · exact e _ (by dsimp only; omega) 2 (by omega)
  · exact e _ (by dsimp only; omega) 3 (by omega)

/-- The attention output rows of a step at an index. -/
theorem attV_at (x0 : Vec Ideal S4x64x512 .f32) (x1 : Vec Ideal S1x8x512 .f32) (x2 : Vec Ideal S512x512 .f32) (x3 : Vec Ideal S1x512 .f32)
    (x4 : Vec Ideal S512x512 .f32) (x5 : Vec Ideal S1x512 .f32) (x6 : Vec Ideal S512x512 .f32) (x7 : Vec Ideal S1x512 .f32)
    (x8 : Vec Ideal S512x512 .f32) (x9 : Vec Ideal S1x512 .f32) (i : Fin 4) (c : Fin 8) (l : Fin 512) :
    attV x0 x1 x2 x3 x4 x5 x6 x7 x8 x9 (ix2 ⟨i.val * 8 + c.val, by omega⟩ l)
      = Model.attn (qOf x1 x2 x3) (kOf x0 x4 x5 i) (kOf x0 x6 x7 i) (fun l j => x8 (ix2 l j)) (fun l => x9 (ix2 0 l)) c l := by
  unfold attV
  rw [headV_at, headV_at, headV_at, headV_at]
  simp only [q_at, k_at, v_at]
  unfold Model.attn
  rw [Fin.sum_univ_four]
  have e : k0_pay5 x9 (ix2 ⟨i.val * 8 + c.val, by omega⟩ l) = x9 (ix2 0 l) := by
    pointwise [k0_pay5]
  rw [e]
  abel

/-- The convolved attention rows at an index. -/
theorem zconvV_at (z : FVec Ideal S32x512 .f32) (x11 : Vec Ideal S32x25 .f32) (x12 : Vec Ideal S32x1 .f32) (r : Fin 32) (l : Fin 512) :
    zconvV z x11 x12 (ix2 r l) = (x12 (ix2 r 0) + ∑ k, Model.tap (fun j => z (ix2 r j)) l k * x11 (ix2 r k) : EReal) := by
  unfold zconvV
  rw [chain_at]
  refine congrArg₂ (· + ·) ?_ (Finset.sum_congr rfl fun k _ => congrArg₂ (· * ·) (tapZ_at z k r l) ?_)
  · pointwise
  · pointwise [spreadZ]
    rfl

/-- One batch's convolution at an index, its expert `e`. -/
theorem convV_at (b : Fin 4) (x : FVec Ideal S256x512 .f32) (oh : FVec Ideal S256x8 .f32) (ws : FVec Ideal S256x25 .f32)
    (zc : FVec Ideal S32x512 .f32) (s : Fin 64) (l : Fin 512) (e : Fin 8)
    (ho : ∀ c, oh (ix2 ⟨b.val * 64 + s.val, by omega⟩ c) = (if c = e then 1 else 0 : EReal)) :
    convV b x oh ws zc (ix2 s l) = (zc (ix2 ⟨b.val * 8 + e.val, by omega⟩ l)
      + ∑ k, Model.tap (fun j => x (ix2 ⟨b.val * 64 + s.val, by omega⟩ j)) l k * ws (ix2 ⟨b.val * 64 + s.val, by omega⟩ k) : EReal) := by
  unfold convV
  rw [chain_at]
  refine congrArg₂ (· + ·) ?_ (Finset.sum_congr rfl fun k _ => congrArg₂ (· * ·) (tapX_at x b k s l) ?_)
  · pointwise
    simp only [ho]
    exact Model.sum_hot e fun c => zc (ix2 ⟨b.val * 8 + c.val, by omega⟩ l)
  · pointwise
    rfl

/-- The prediction against every expert at an index. -/
theorem fullV_at (cs : Fin 4 → FVec Ideal S64x512 .f32) (x13 : Vec Ideal S768x512 .f32) (b : Fin 4) (s : Fin 64) (r : Fin 768) :
    fullV (cs 0) (cs 1) (cs 2) (cs 3) x13 (ix2 ⟨b.val * 64 + s.val, by omega⟩ r) = (∑ l, cs b (ix2 s l) * x13 (ix2 r l) : EReal) := by
  pointwise [fullV]
  refine Finset.sum_congr rfl fun l _ => congrArg₂ (· * ·) ?_ rfl
  have e : ∀ j : Fin 64, j.val = s.val → ∀ o : Fin 4, b = o → cs o (ix2 j l) = cs b (ix2 s l) := by
    rintro j hj o rfl
    rw [Fin.ext hj]
  split
  · exact e _ (by dsimp only; omega) 0 (by omega)
  split
  · exact e _ (by dsimp only; omega) 1 (by omega)
  split
  · exact e _ (by dsimp only; omega) 2 (by omega)
  · exact e _ (by dsimp only; omega) 3 (by omega)

/-- The prediction bias of a token at an index, its expert `e`. -/
theorem biasV_at (oh : FVec Ideal S256x8 .f32) (x14 : FVec Ideal S8x96 .f32) (r : Fin 256) (p : Fin 96) (e : Fin 8)
    (ho : ∀ c, oh (ix2 r c) = (if c = e then 1 else 0 : EReal)) :
    matmul (φ₂ := .f32) dot_S256x8_S8x96_S256x96_1_0_0_1_n_n (some .fp32) oh x14 (constant S256x96 .f32 0x00000000#32) (ix2 r p)
      = x14 (ix2 e p) := by
  pointwise
  simp only [ho]
  exact Model.sum_hot e fun c => x14 (ix2 c p)

/-- The block one step writes at an index, the expert of that token being `e`. -/
theorem blockV_at (x0 : Vec Ideal S4x64x512 .f32) (x1 : Vec Ideal S1x8x512 .f32) (x2 : Vec Ideal S512x512 .f32) (x3 : Vec Ideal S1x512 .f32)
    (x4 : Vec Ideal S512x512 .f32) (x5 : Vec Ideal S1x512 .f32) (x6 : Vec Ideal S512x512 .f32) (x7 : Vec Ideal S1x512 .f32)
    (x8 : Vec Ideal S512x512 .f32) (x9 : Vec Ideal S1x512 .f32) (x10 : Vec Ideal S8x25 .f32) (x11 : Vec Ideal S32x25 .f32)
    (x12 : Vec Ideal S32x1 .f32) (x13 : Vec Ideal S768x512 .f32) (x14 : Vec Ideal S8x96 .f32) (x15 : Vec Ideal S4x64x8 .f32)
    (b : Fin 4) (s : Fin 64) (p : Fin 96) (e : Fin 8) (ho : ∀ c, x15 (ix3 b s c) = (if c = e then 1 else 0 : EReal)) :
    blockV x0 x1 x2 x3 x4 x5 x6 x7 x8 x9 x10 x11 x12 x13 x14 x15 (ix3 b s p)
      = Model.out (fun j => x0 (ix3 b s j))
          (Model.attn (qOf x1 x2 x3) (kOf x0 x4 x5 b) (kOf x0 x6 x7 b) (fun l j => x8 (ix2 l j)) (fun l => x9 (ix2 0 l)) e)
          (fun k => x10 (ix2 e k)) (fun k => x11 (ix2 ⟨b.val * 8 + e.val, by omega⟩ k)) (x12 (ix2 ⟨b.val * 8 + e.val, by omega⟩ 0))
          (fun l => x13 (ix2 ⟨e.val * 96 + p.val, by omega⟩ l)) (x14 (ix2 e p)) := by
  have h1 : ∀ c, k0_pay33 x15 (ix2 ⟨b.val * 64 + s.val, by omega⟩ c) = (if c = e then 1 else 0 : EReal) := by
    intro c
    rw [← ho]
    pointwise [k0_pay33]
  have h2 : ∀ k, k0_pay43 (k0_pay33 x15) x10 (ix2 ⟨b.val * 64 + s.val, by omega⟩ k) = x10 (ix2 e k) := by
    intro k
    pointwise [k0_pay43]
    simp only [h1]
    exact Model.sum_hot e fun c => x10 (ix2 c k)
  have h3 : ∀ j, k0_pay1 x0 (ix2 ⟨b.val * 64 + s.val, by omega⟩ j) = x0 (ix3 b s j) := by
    intro j
    pointwise [k0_pay1]
  unfold blockV
  pointwise
  rw [pickV_at]
  refine (congrArg₂ (· + ·) (biasV_at _ x14 _ p e h1) (Finset.sum_congr rfl fun i _ => congrArg₂ (· * ·) (h1 _)
    (fullV_at (fun b => convV b (k0_pay1 x0) (k0_pay33 x15) (k0_pay43 (k0_pay33 x15) x10)
      (zconvV (attV x0 x1 x2 x3 x4 x5 x6 x7 x8 x9) x11 x12)) x13 b s ⟨i.val * 96 + p.val, by omega⟩))).trans ?_
  refine (congrArg (_ + ·) (Model.sum_hot e fun c : Fin 8 => ∑ l, convV b (k0_pay1 x0) (k0_pay33 x15) (k0_pay43 (k0_pay33 x15) x10)
      (zconvV (attV x0 x1 x2 x3 x4 x5 x6 x7 x8 x9) x11 x12) (ix2 s l) * x13 (ix2 ⟨c.val * 96 + p.val, by omega⟩ l))).trans ?_
  rw [add_comm]
  unfold Model.out
  refine congrArg (· + _) (Finset.sum_congr rfl fun l _ => congrArg (· * _) ?_)
  rw [convV_at b _ _ _ _ s l e h1, zconvV_at]
  simp only [h2, h3, attV_at]
  unfold Model.cv
  abel

end Cert.KernelIdeal.Body
end
-- ==== Proof.RefFn.lean ====
module

public import proofs.«01_k».proof.Defs
public import proofs.«01_k».proof.Proof.Gen.ReferenceIdeal
public import Idealize.ShloMosaic.Lib.Claim

/-! What the reference computes, as functions of its fourteen arguments, cut at the steps of the algorithm. -/

@[expose] public section

set_option maxRecDepth 16384

noncomputable section

open Idealize.ShloMosaic Idealize.ShloMosaic.TcCoe Idealize.SL.Sem

namespace Cert.ReferenceIdeal.Fn

open Cert.ReferenceIdeal Cert.ReferenceIdeal.Gen

/-! ## The attention and the routing -/

/-- Eight rows a batch against a square of weights, with a bias. -/
def lin8 (x : FVec Ideal S32x8x512 .f32) (w : FVec Ideal S512x512 .f32) (b : FVec Ideal S512 .f32) : FVec Ideal S32x8x512 .f32 :=
  addf (Host.dotGeneral dot_S32x8x512_S512x512_S32x8x512_2_0_01_1_n_n none x (transpose S512x512 [1, 0] w transposes_S512x512_S512x512_1_0))
    (broadcastInDim S32x8x512 ![0, 1, 2] bcast_S1x1x512_S32x8x512_0_1_2 (broadcastInDim S1x1x512 ![2] bcast_S512_S1x1x512_2 b))

/-- Sixty-four rows a batch against a square of weights, with a bias. -/
def lin64 (x : FVec Ideal S32x64x512 .f32) (w : FVec Ideal S512x512 .f32) (b : FVec Ideal S512 .f32) : FVec Ideal S32x64x512 .f32 :=
  addf (Host.dotGeneral dot_S32x64x512_S512x512_S32x64x512_2_0_01_1_n_n none x (transpose S512x512 [1, 0] w transposes_S512x512_S512x512_1_0))
    (broadcastInDim S32x64x512 ![0, 1, 2] bcast_S1x1x512_S32x64x512_0_1_2 (broadcastInDim S1x1x512 ![2] bcast_S512_S1x1x512_2 b))

/-- The scaled scores, per batch, head, router row and token. -/
def scores (q : FVec Ideal S32x8x512 .f32) (k : FVec Ideal S32x64x512 .f32) : FVec Ideal S32x4x8x64 .f32 :=
  mulf (Host.dotGeneral dot_S32x8x4x128_S32x64x4x128_S32x4x8x64_3_3_1_1_02_02 none
      (shapeCast S32x8x4x128 q shapeCasts_S32x8x512_S32x8x4x128) (shapeCast S32x64x4x128 k shapeCasts_S32x64x512_S32x64x4x128))
    (broadcastInDim S32x4x8x64 ![] bcast_S_S32x4x8x64 (constant S_ .f32 0x3DB504F3#32))

/-- The exponentials of the scores, each row's maximum taken off. -/
def expo (s : FVec Ideal S32x4x8x64 .f32) : FVec Ideal S32x4x8x64 .f32 :=
  Host.exp (subf s (broadcastInDim S32x4x8x64 ![0, 1, 2, 3] bcast_S32x4x8x1_S32x4x8x64_0_1_2_3
    (broadcastInDim S32x4x8x1 ![0, 1, 2] bcast_S32x4x8_S32x4x8x1_0_1_2
      (maximumf (broadcastInDim S32x4x8 ![] bcast_S_S32x4x8 (constant S_ .f32 0xFF800000#32))
        (Host.reduce FloatOps.maximumf s (constant S_ .f32 0xFF800000#32) reducesTo_S32x4x8x64_S32x4x8_d3 h_S_)))))

/-- Each row divided by its sum. -/
def norml (e : FVec Ideal S32x4x8x64 .f32) : FVec Ideal S32x4x8x64 .f32 :=
  Host.divf e (broadcastInDim S32x4x8x64 ![0, 1, 2, 3] bcast_S32x4x8x1_S32x4x8x64_0_1_2_3
    (broadcastInDim S32x4x8x1 ![0, 1, 2] bcast_S32x4x8_S32x4x8x1_0_1_2
      (Host.reduceAdd e (constant S_ .f32 0x00000000#32) reducesTo_S32x4x8x64_S32x4x8_d3 h_S_)))

/-- The heads' mixtures of the values, side by side. -/
def mixed (a : FVec Ideal S32x4x8x64 .f32) (v : FVec Ideal S32x64x512 .f32) : FVec Ideal S32x8x512 .f32 :=
  shapeCast S32x8x512 (transpose S32x8x4x128 [0, 3, 1, 2]
    (Host.dotGeneral dot_S32x64x4x128_S32x4x8x64_S32x4x128x8_1_3_3_2_02_01 none
      (shapeCast S32x64x4x128 v shapeCasts_S32x64x512_S32x64x4x128) a) transposes_S32x4x128x8_S32x8x4x128_0_3_1_2)
    shapeCasts_S32x8x4x128_S32x8x512

/-- The attention output of the eight router rows. -/
def att (a0 : FVec Ideal S32x64x512 .f32) (a1 : FVec Ideal S1x8x512 .f32) (a2 : FVec Ideal S512x512 .f32) (a3 : FVec Ideal S512 .f32)
    (a4 : FVec Ideal S512x512 .f32) (a5 : FVec Ideal S512 .f32) (a6 : FVec Ideal S512x512 .f32) (a7 : FVec Ideal S512 .f32)
    (a8 : FVec Ideal S512x512 .f32) (a9 : FVec Ideal S512 .f32) : FVec Ideal S32x8x512 .f32 :=
  lin8 (mixed (norml (expo (scores (lin8 (broadcastInDim S32x8x512 ![0, 1, 2] bcast_S1x8x512_S32x8x512_0_1_2 a1) a2 a3)
    (lin64 a0 a4 a5)))) (lin64 a0 a6 a7)) a8 a9

/-- The lengths of the attention rows. -/
def len8 (x : FVec Ideal S32x8x512 .f32) : FVec Ideal S32x8x1 .f32 :=
  Host.sqrt (broadcastInDim S32x8x1 ![0, 1] bcast_S32x8_S32x8x1_0_1
    (Host.reduceAdd (mulf x x) (constant S_ .f32 0x00000000#32) reducesTo_S32x8x512_S32x8_d2 h_S_))

/-- The lengths of the token rows. -/
def len64 (x : FVec Ideal S32x64x512 .f32) : FVec Ideal S32x64x1 .f32 :=
  Host.sqrt (broadcastInDim S32x64x1 ![0, 1] bcast_S32x64_S32x64x1_0_1
    (Host.reduceAdd (mulf x x) (constant S_ .f32 0x00000000#32) reducesTo_S32x64x512_S32x64_d2 h_S_))

/-- The routing score of every router row against every token. -/
def score (z : FVec Ideal S32x8x512 .f32) (x : FVec Ideal S32x64x512 .f32) : FVec Ideal S32x8x64 .f32 :=
  Host.divf (addf (broadcastInDim S32x8x64 ![] bcast_S_S32x8x64 (constant S_ .f32 0x3F800000#32))
    (Host.divf (Host.dotGeneral dot_S32x8x512_S32x64x512_S32x8x64_2_2_1_1_0_0 none z x)
      (mulf (broadcastInDim S32x8x64 ![0, 1, 2] bcast_S32x8x1_S32x8x64_0_1_2 (len8 z))
        (broadcastInDim S32x8x64 ![0, 1, 2] bcast_S32x1x64_S32x8x64_0_1_2
          (transpose S32x1x64 [0, 2, 1] (len64 x) transposes_S32x64x1_S32x1x64_0_2_1)))))
    (broadcastInDim S32x8x64 ![] bcast_S_S32x8x64 (constant S_ .f32 0x40000000#32))

/-- The router row of the greatest score, per token. -/
def best (s : FVec Ideal S32x8x64 .f32) : IVec S32x64 32 := fun j =>
  (Host.argReduce reducer_argmax_f32_i32 s (iotaInDim S32x8x64 32 1) (constant S_ .f32 0xFF800000#32) (constantI S_ 32 0#32)
    reducesTo_S32x8x64_S32x64_d1 h_S_ j).2

/-! ## The selections -/

/-- A column of indices, with the negative ones counted from the end of eight. -/
def wrap8 (i : IVec S2048 32) : IVec S2048x1 32 :=
  broadcastInDim S2048x1 ![0] bcast_S2048_S2048x1_0
    (select (cmpi .slt i (broadcastInDim S2048 ![] bcast_S_S2048 (constantI S_ 32 0#32)))
      (addi i (broadcastInDim S2048 ![] bcast_S_S2048 (constantI S_ 32 8#32))) i)

/-- The chosen indices wrapped as `take_along_axis` wraps them. -/
def wrapT (i : IVec S32x64x1 32) : IVec S32x64x1 32 :=
  select (cmpi .slt i (broadcastInDim S32x64x1 ![] bcast_S_S32x64x1 (constantI S_ 32 0#32)))
    (addi i (broadcastInDim S32x64x1 ![] bcast_S_S32x64x1 (constantI S_ 32 8#32))) i

/-- Which of the indices are in range. -/
def inR (i : IVec S32x64x1 32) : IVec S32x64 1 :=
  Host.reduce IntOp.andi
    (andi (cmpi .sge i (broadcastInDim S32x64x1 ![] bcast_S_S32x64x1 (constantI S_ 32 0#32)))
      (cmpi .sle i (broadcastInDim S32x64x1 ![0, 1, 2] bcast_S1x1x1_S32x64x1_0_1_2
        (broadcastInDim S1x1x1 ![2] bcast_S1_S1x1x1_2 (constantI S1 32 7#32)))))
    (constantI S_ 1 1#1) reducesTo_S32x64x1_S32x64_d2 h_S_

/-- The attention row chosen for each token. -/
def take (z : FVec Ideal S32x8x512 .f32) (i : IVec S32x64x1 32) : FVec Ideal S32x64x512 .f32 :=
  select (broadcastInDim S32x64x512 ![0, 1] bcast_S32x64_S32x64x512_0_1 (inR (wrapT i)))
    (Host.gather gather_S32x8x512_S32x64x1_S32x64x512_2_1_0_0_1_2_11512 z (wrapT i))
    (broadcastInDim S32x64x512 ![] bcast_S_S32x64x512 (constant S_ .f32 0x7FC00000#32))

/-! ## The convolution and the prediction -/

/-- A token row and its attention row, the two channels of every token. -/
def chans (x z : FVec Ideal S32x64x512 .f32) : FVec Ideal S2048x2x512 .f32 :=
  shapeCast S2048x2x512 (concatenate S32x64x2x512 2
    [⟨S32x64x1x512, broadcastInDim S32x64x1x512 ![0, 1, 3] bcast_S32x64x512_S32x64x1x512_0_1_3 x⟩,
      ⟨S32x64x1x512, broadcastInDim S32x64x1x512 ![0, 1, 3] bcast_S32x64x512_S32x64x1x512_0_1_3 z⟩]
    concatenates_S32x64x1x512_S32x64x1x512_S32x64x2x512_d2) shapeCasts_S32x64x2x512_S2048x2x512

/-- Twelve zeros before and after every row. -/
def padded (x : FVec Ideal S2048x2x512 .f32) : FVec Ideal S2048x2x536 .f32 :=
  pad S2048x2x536 ![0, 0, 12] ![0, 0, 12] ![0, 0, 0] x (sitofp .f32 (constantI S_ 32 0#32))
    pads_S2048x2x512_S2048x2x536_000_000_12120 h_S_

/-- The position each tap reads from. -/
def posn : IVec S512x25 32 :=
  addi (broadcastInDim S512x25 ![0, 1] bcast_S512x1_S512x25_0_1 (broadcastInDim S512x1 ![0] bcast_S512_S512x1_0 (iotaInDim S512 32 0)))
    (broadcastInDim S512x25 ![0, 1] bcast_S1x25_S512x25_0_1 (broadcastInDim S1x25 ![1] bcast_S25_S1x25_1 (iotaInDim S25 32 0)))

/-- The positions as a column, the negative ones counted from the end of 536. -/
def posw : IVec S512x25x1 32 :=
  broadcastInDim S512x25x1 ![0, 1] bcast_S512x25_S512x25x1_0_1
    (select (cmpi .slt posn (broadcastInDim S512x25 ![] bcast_S_S512x25 (constantI S_ 32 0#32)))
      (addi posn (broadcastInDim S512x25 ![] bcast_S_S512x25 (constantI S_ 32 536#32))) posn)

/-- The windows of 25 around every position. -/
def patches (x : FVec Ideal S2048x2x536 .f32) : FVec Ideal S2048x2x512x25 .f32 :=
  Host.gather gather_S2048x2x536_S512x25x1_S2048x2x512x25_01_2_n_n_2_2_204821 x posw

/-- The convolution, every token with its expert's weights and bias. -/
def conv (p : FVec Ideal S2048x2x512x25 .f32) (i : IVec S2048 32) (a10 : FVec Ideal S8x1x2x25 .f32) (a11 : FVec Ideal S8 .f32) :
    FVec Ideal S2048x512 .f32 :=
  addf (Host.dotGeneral dot_S2048x2x512x25_S2048x2x25_S2048x512_13_12_2_n_0_0 none p
      (shapeCast S2048x2x25 (Host.gather gather_S8x1x2x25_S2048x1_S2048x1x2x25_123_0_n_n_0_1_11225 a10 (wrap8 i))
        shapeCasts_S2048x1x2x25_S2048x2x25))
    (broadcastInDim S2048x512 ![0, 1] bcast_S2048x1_S2048x512_0_1 (broadcastInDim S2048x1 ![0] bcast_S2048_S2048x1_0
      (Host.gather gather_S8_S2048x1_S2048_n_0_n_n_0_1_1 a11 (wrap8 i))))

/-- The prediction, every token with its expert's weights and bias. -/
def pred (v : FVec Ideal S2048x512 .f32) (i : IVec S2048 32) (a12 : FVec Ideal S8x96x512 .f32) (a13 : FVec Ideal S8x96 .f32) :
    FVec Ideal S32x64x96 .f32 :=
  shapeCast S32x64x96 (addf (Host.dotGeneral dot_S2048x512_S2048x96x512_S2048x96_1_2_n_1_0_0 none v
      (Host.gather gather_S8x96x512_S2048x1_S2048x96x512_12_0_n_n_0_1_196512 a12 (wrap8 i)))
    (Host.gather gather_S8x96_S2048x1_S2048x96_1_0_n_n_0_1_196 a13 (wrap8 i))) shapeCasts_S2048x96_S32x64x96

/-- What follows the routing: the result of the attention rows, the tokens and the chosen indices. -/
def tail (z : FVec Ideal S32x8x512 .f32) (x : FVec Ideal S32x64x512 .f32) (i : IVec S32x64 32) (a10 : FVec Ideal S8x1x2x25 .f32)
    (a11 : FVec Ideal S8 .f32) (a12 : FVec Ideal S8x96x512 .f32) (a13 : FVec Ideal S8x96 .f32) : FVec Ideal S32x64x96 .f32 :=
  pred (conv (patches (padded (chans x (take z (broadcastInDim S32x64x1 ![0, 1] bcast_S32x64_S32x64x1_0_1 i)))))
    (shapeCast S2048 i shapeCasts_S32x64_S2048) a10 a11) (shapeCast S2048 i shapeCasts_S32x64_S2048) a12 a13

end Cert.ReferenceIdeal.Fn

end
-- ==== Proof.Host.lean ====
module

public import proofs.«01_k».proof.Proof.Gen.KernelIdeal.Value
public import proofs.«01_k».proof.Proof.RefFn
public import Idealize.ShloMosaic.Lib.Pipeline.ValueKit
public import Idealize.ShloMosaic.Lib.Claim
public import Idealize.ShloMosaic.Lib.StableHlo.ReadAt
public import Idealize.ShloMosaic.Lib.Tactic.CleanTypes

/-! What the kernel's program holds before the launch: the one-hot rows of the chosen experts, which its host operations
    compute as the reference computes them, and the weights cut and repeated for the launch. -/

@[expose] public section
set_option maxRecDepth 65536
noncomputable section
namespace Cert.KernelIdeal.HostV
open Cert.KernelIdeal Cert.KernelIdeal.Gen Idealize.ShloMosaic Idealize.ShloMosaic.TcCoe Idealize.SL.Sem
open Cert.ReferenceIdeal.Fn
variable (m : (ℓ : Loc nD τ sig) → Buf (Elt Ideal) ℓ)

/-- The rows of eight with a one at the chosen expert. -/
def hot (i : IVec S32x64 32) : FVec Ideal S32x64x8 .f32 :=
  uitofp .f32 (cmpi .eq (broadcastInDim S32x64x8 ![0, 1, 2] bcast_S32x64x1_S32x64x8_0_1_2
      (broadcastInDim S32x64x1 ![0, 1] bcast_S32x64_S32x64x1_0_1 i))
    (broadcastInDim S32x64x8 ![0, 1, 2] bcast_S1x1x8_S32x64x8_0_1_2 (iotaInDim S1x1x8 32 2)))

set_option maxHeartbeats 4000000 in
/-- The one-hot rows staged for the launch are those of the expert that the reference's routing chooses. -/
theorem v66 (c : Dev nD) : V m c main_v66 = hot (best (score
    (att (m (c.tc.loc main_arg0)) (m (c.tc.loc main_arg1)) (m (c.tc.loc main_arg2)) (m (c.tc.loc main_arg3))
      (m (c.tc.loc main_arg4)) (m (c.tc.loc main_arg5)) (m (c.tc.loc main_arg6)) (m (c.tc.loc main_arg7))
      (m (c.tc.loc main_arg8)) (m (c.tc.loc main_arg9))) (m (c.tc.loc main_arg0)))) := by
  unfold V
  simp only [List.flatten_cons, List.flatten_nil, List.cons_append, List.nil_append, List.append_nil]
  after_reads_simp
  clean_types
  simp -implicitDefEqProofs only [StableHlo.TRef.toBuf, StableHlo.TRef.ofBuf, cast_cast, cast_eq]
  unfold hot best score len64 len8 att mixed norml expo scores lin64 lin8
  rfl

/-- The arguments that the launch stages as they are. -/
theorem args (c : Dev nD) : V m c main_arg0 = m (c.tc.loc main_arg0) ∧ V m c main_arg1 = m (c.tc.loc main_arg1) ∧
    V m c main_arg2 = m (c.tc.loc main_arg2) ∧ V m c main_arg4 = m (c.tc.loc main_arg4) ∧
    V m c main_arg6 = m (c.tc.loc main_arg6) ∧ V m c main_arg8 = m (c.tc.loc main_arg8) ∧
    V m c main_arg13 = m (c.tc.loc main_arg13) := by
  unfold V
  simp only [List.flatten_cons, List.flatten_nil, List.cons_append, List.nil_append, List.append_nil]
  refine ⟨?_, ?_, ?_, ?_, ?_, ?_, ?_⟩ <;> after_reads_simp

/-- The four biases of the attention, staged as rows. -/
theorem biases (c : Dev nD) (l : Fin 512) : V m c main_v67 (ix2 0 l) = m (c.tc.loc main_arg3) (ix1 l) ∧
    V m c main_v68 (ix2 0 l) = m (c.tc.loc main_arg5) (ix1 l) ∧ V m c main_v69 (ix2 0 l) = m (c.tc.loc main_arg7) (ix1 l) ∧
    V m c main_v70 (ix2 0 l) = m (c.tc.loc main_arg9) (ix1 l) := by
  unfold V
  simp only [List.flatten_cons, List.flatten_nil, List.cons_append, List.nil_append, List.append_nil]
  refine ⟨?_, ?_, ?_, ?_⟩ <;> after_reads_at

/-- The experts' weights: the taps over the tokens; the taps over the attention rows and the convolution biases, repeated
    for the four batches of a step; the prediction weights, the experts under one another. -/
theorem weights (c : Dev nD) : (∀ (e : Fin 8) (k : Fin 25), V m c main_v72 (ix2 e k) = m (c.tc.loc main_arg10) (ix4 e 0 0 k)) ∧
    (∀ (r : Fin 32) (k : Fin 25), V m c main_v77 (ix2 r k) = m (c.tc.loc main_arg10) (ix4 ⟨r.val % 8, by omega⟩ 0 1 k)) ∧
    (∀ r : Fin 32, V m c main_v81 (ix2 r 0) = m (c.tc.loc main_arg11) (ix1 ⟨r.val % 8, by omega⟩)) ∧
    (∀ (r : Fin 768) (l : Fin 512), V m c main_v82 (ix2 r l) =
      m (c.tc.loc main_arg12) (ix3 ⟨r.val / 96, by omega⟩ ⟨r.val % 96, by omega⟩ l)) := by
  unfold V
  simp only [List.flatten_cons, List.flatten_nil, List.cons_append, List.nil_append, List.append_nil]
  refine ⟨fun e k => ?_, fun r k => ?_, fun r => ?_, fun r l => ?_⟩ <;> after_reads_at

end Cert.KernelIdeal.HostV
end
-- ==== Proof.RefGather.lean ====
module

public import proofs.«01_k».proof.Proof.RefFn
public import Idealize.ShloMosaic.Lib.Pointwise
public import Idealize.ShloMosaic.Lib.WordCmp

/-! The reference's selections at an index: a gather whose start word lies inside the operand reads the operand there. -/

@[expose] public section
set_option maxRecDepth 16384
noncomputable section
namespace Cert.ReferenceIdeal.Fn
open Cert.ReferenceIdeal Cert.ReferenceIdeal.Gen Idealize.ShloMosaic Idealize.ShloMosaic.TcCoe Idealize.SL.Sem

/-- A small word read signed is its number. -/
theorem word_val (e n : Nat) (he : e ≤ n) (hn : n < 2 ^ 31) : min (BitVec.ofNat 32 e).toInt.toNat n = e := by
  rw [WordCmp.toInt_ofNat_of_lt (by omega)]
  simp only [Int.toNat_natCast]
  omega

/-- A start word that is a small number, read signed and clamped, is that number. -/
theorem start_val {si : Shape} (idx : IVec si 32) (y y' : si.Idx) (hy : y = y') (e n : Nat) (he : idx y' = BitVec.ofNat 32 e)
    (h : e ≤ n) (hn : n < 2 ^ 31) : min (idx y).toInt.toNat n = e := by
  rw [hy, he]
  exact word_val e n h hn

/-- The index of the start word of a column of 2048. -/
theorem column_ext (y : S2048x1.Idx) (n : Fin 2048) (h : (y 0).val = n.val) : y = ix2 n 0 := by
  funext b
  refine Fin.ext ?_
  match b with
  | ⟨0, _⟩ => exact h
  | ⟨1, _⟩ => exact Nat.lt_one_iff.mp (y 1).isLt

/-- The attention rows' gather at an index. -/
theorem gatherZ (z : FVec Ideal S32x8x512 .f32) (i : IVec S32x64x1 32) (n : Fin 32) (s : Fin 64) (l : Fin 512) (e : Fin 8)
    (he : i (ix3 n s 0) = BitVec.ofNat 32 e.val) :
    Host.gather gather_S32x8x512_S32x64x1_S32x64x512_2_1_0_0_1_2_11512 z i (ix3 n s l) = z (ix3 n e l) := by
  unfold Host.gather
  refine congrArg z (funext fun a => Fin.ext ?_)
  match a with
  | ⟨0, _⟩ => exact (show 0 + n.val + 0 = n.val by omega)
  | ⟨1, _⟩ =>
    refine start_val i _ (ix3 n s 0) (funext fun b => Fin.ext ?_) e.val 7 he (by omega) (by omega)
    match b with
    | ⟨0, _⟩ => rfl
    | ⟨1, _⟩ => rfl
    | ⟨2, _⟩ => rfl
  | ⟨2, _⟩ => exact (show 0 + 0 + l.val = l.val by omega)

/-- The windows' gather at an index. -/
theorem gatherP (x : FVec Ideal S2048x2x536 .f32) (i : IVec S512x25x1 32) (n : Fin 2048) (ch : Fin 2) (t : Fin 512) (k : Fin 25)
    (q : Fin 536) (hq : i (ix3 t k 0) = BitVec.ofNat 32 q.val) :
    Host.gather gather_S2048x2x536_S512x25x1_S2048x2x512x25_01_2_n_n_2_2_204821 x i (ix4 n ch t k) = x (ix3 n ch q) := by
  unfold Host.gather
  refine congrArg x (funext fun a => Fin.ext ?_)
  match a with
  | ⟨0, _⟩ => exact (show 0 + 0 + n.val = n.val by omega)
  | ⟨1, _⟩ => exact (show 0 + 0 + ch.val = ch.val by omega)
  | ⟨2, _⟩ =>
    refine start_val i _ (ix3 t k 0) (funext fun b => Fin.ext ?_) q.val 535 hq (by omega) (by omega)
    match b with
    | ⟨0, _⟩ => rfl
    | ⟨1, _⟩ => rfl
    | ⟨2, _⟩ => rfl

/-- The convolution weights' gather at an index. -/
theorem gatherW (x : FVec Ideal S8x1x2x25 .f32) (i : IVec S2048x1 32) (n : Fin 2048) (ch : Fin 2) (k : Fin 25) (e : Fin 8)
    (he : i (ix2 n 0) = BitVec.ofNat 32 e.val) :
    Host.gather gather_S8x1x2x25_S2048x1_S2048x1x2x25_123_0_n_n_0_1_11225 x i (ix4 n 0 ch k) = x (ix4 e 0 ch k) := by
  unfold Host.gather
  refine congrArg x (funext fun a => Fin.ext ?_)
  match a with
  | ⟨0, _⟩ => exact start_val i _ (ix2 n 0) (column_ext _ n rfl) e.val 7 he (by omega) (by omega)
  | ⟨1, _⟩ => rfl
  | ⟨2, _⟩ => exact (show 0 + 0 + ch.val = ch.val by omega)
  | ⟨3, _⟩ => exact (show 0 + 0 + k.val = k.val by omega)

/-- The convolution biases' gather at an index. -/
theorem gatherB (x : FVec Ideal S8 .f32) (i : IVec S2048x1 32) (n : Fin 2048) (e : Fin 8)
    (he : i (ix2 n 0) = BitVec.ofNat 32 e.val) :
    Host.gather gather_S8_S2048x1_S2048_n_0_n_n_0_1_1 x i (ix1 n) = x (ix1 e) := by
  unfold Host.gather
  refine congrArg x (funext fun a => Fin.ext ?_)
  match a with
  | ⟨0, _⟩ => exact start_val i _ (ix2 n 0) (column_ext _ n rfl) e.val 7 he (by omega) (by omega)

/-- The prediction weights' gather at an index. -/
theorem gatherV (x : FVec Ideal S8x96x512 .f32) (i : IVec S2048x1 32) (n : Fin 2048) (p : Fin 96) (l : Fin 512) (e : Fin 8)
    (he : i (ix2 n 0) = BitVec.ofNat 32 e.val) :
    Host.gather gather_S8x96x512_S2048x1_S2048x96x512_12_0_n_n_0_1_196512 x i (ix3 n p l) = x (ix3 e p l) := by
  unfold Host.gather
  refine congrArg x (funext fun a => Fin.ext ?_)
  match a with
  | ⟨0, _⟩ => exact start_val i _ (ix2 n 0) (column_ext _ n rfl) e.val 7 he (by omega) (by omega)
  | ⟨1, _⟩ => exact (show 0 + 0 + p.val = p.val by omega)
  | ⟨2, _⟩ => exact (show 0 + 0 + l.val = l.val by omega)

/-- The prediction biases' gather at an index. -/
theorem gatherC (x : FVec Ideal S8x96 .f32) (i : IVec S2048x1 32) (n : Fin 2048) (p : Fin 96) (e : Fin 8)
    (he : i (ix2 n 0) = BitVec.ofNat 32 e.val) :
    Host.gather gather_S8x96_S2048x1_S2048x96_1_0_n_n_0_1_196 x i (ix2 n p) = x (ix2 e p) := by
  unfold Host.gather
  refine congrArg x (funext fun a => Fin.ext ?_)
  match a with
  | ⟨0, _⟩ => exact start_val i _ (ix2 n 0) (column_ext _ n rfl) e.val 7 he (by omega) (by omega)
  | ⟨1, _⟩ => exact (show 0 + 0 + p.val = p.val by omega)

end Cert.ReferenceIdeal.Fn
end
-- ==== Proof.RefAt.lean ====
module

public import proofs.«01_k».proof.Proof.RefGather
public import proofs.«01_k».proof.Proof.Model
public import Idealize.ShloMosaic.Lib.Tactic.WordOmega

/-! The reference at an index, as the model's value. -/

@[expose] public section
set_option maxRecDepth 16384
noncomputable section
namespace Cert.ReferenceIdeal.Fn
open Cert.ReferenceIdeal Cert.ReferenceIdeal.Gen Idealize.ShloMosaic Idealize.ShloMosaic.TcCoe Idealize.SL.Sem

/-- The queries, by router row and column. -/
abbrev qOf (a1 : FVec Ideal S1x8x512 .f32) (w : FVec Ideal S512x512 .f32) (b : FVec Ideal S512 .f32) (c : Fin 8) : Fin 512 → EReal :=
  Model.lin (fun j => a1 (ix3 0 c j)) (fun l j => w (ix2 l j)) (fun l => b (ix1 l))

/-- The keys, or the values, of batch `n`, by token and column. -/
abbrev kOf (a0 : FVec Ideal S32x64x512 .f32) (w : FVec Ideal S512x512 .f32) (b : FVec Ideal S512 .f32) (n : Fin 32) (t : Fin 64) :
    Fin 512 → EReal :=
  Model.lin (fun j => a0 (ix3 n t j)) (fun l j => w (ix2 l j)) (fun l => b (ix1 l))

/-- The heads' mixtures at an index. -/
theorem mixed_at (q : FVec Ideal S32x8x512 .f32) (k v : FVec Ideal S32x64x512 .f32) (n : Fin 32) (c : Fin 8) (h : Fin 4) (d : Fin 128) :
    mixed (norml (expo (scores q k))) v (ix3 n c (Model.cat h d))
      = Model.mx (fun c l => q (ix3 n c l)) (fun t l => k (ix3 n t l)) (fun t l => v (ix3 n t l)) h c d := by
  unfold Model.cat
  pointwise [mixed, norml, expo, scores]
  simp only [Model.max_fold]
  exact Finset.sum_congr rfl fun t _ => mul_comm _ _

/-- The attention output at an index. -/
theorem att_at (a0 : FVec Ideal S32x64x512 .f32) (a1 : FVec Ideal S1x8x512 .f32) (a2 : FVec Ideal S512x512 .f32) (a3 : FVec Ideal S512 .f32)
    (a4 : FVec Ideal S512x512 .f32) (a5 : FVec Ideal S512 .f32) (a6 : FVec Ideal S512x512 .f32) (a7 : FVec Ideal S512 .f32)
    (a8 : FVec Ideal S512x512 .f32) (a9 : FVec Ideal S512 .f32) (n : Fin 32) (c : Fin 8) (l : Fin 512) :
    att a0 a1 a2 a3 a4 a5 a6 a7 a8 a9 (ix3 n c l)
      = Model.attn (qOf a1 a2 a3) (kOf a0 a4 a5 n) (kOf a0 a6 a7 n) (fun l j => a8 (ix2 l j)) (fun l => a9 (ix1 l)) c l := by
  have hq : ∀ c l, lin8 (broadcastInDim S32x8x512 ![0, 1, 2] bcast_S1x8x512_S32x8x512_0_1_2 a1) a2 a3 (ix3 n c l) = qOf a1 a2 a3 c l := by
    intro c l
    pointwise [lin8]
    rfl
  have hk : ∀ w b t l, lin64 a0 w b (ix3 n t l) = kOf a0 w b n t l := by
    intro w b t l
    pointwise [lin64]
    rfl
  unfold att
  generalize hZ : mixed _ _ = Z
  pointwise [lin8]
  rw [Model.sum_cat]
  subst hZ
  simp only [mixed_at, hq, hk]
  rfl

/-- A small word is not negative. -/
theorem not_neg (e : Nat) (he : e < 2 ^ 31) : IntOp.cmpi .slt (BitVec.ofNat 32 e) 0#32 = 0#1 := by
  have h0 : (BitVec.ofNat 32 e).toInt = e := WordCmp.toInt_ofNat_of_lt (by omega)
  rw [WordCmp.cmpi_slt_eq, h0]
  have h1 : (0#32).toInt = 0 := by decide
  rw [h1, decide_eq_false (by omega)]
  rfl

/-- The column of chosen experts at an index. -/
theorem wrap8_at (i : IVec S32x64 32) (n : Fin 32) (s : Fin 64) (e : Fin 8) (hi : i (ix2 n s) = BitVec.ofNat 32 e.val) :
    wrap8 (shapeCast S2048 i shapeCasts_S32x64_S2048) (ix2 ⟨n.val * 64 + s.val, by omega⟩ 0) = BitVec.ofNat 32 e.val := by
  pointwise [wrap8]
  rw [hi, not_neg _ (by omega)]
  rfl

/-- The chosen experts, wrapped for the selection of the attention rows, at an index. -/
theorem wrapT_at (i : IVec S32x64 32) (n : Fin 32) (s : Fin 64) (e : Fin 8) (hi : i (ix2 n s) = BitVec.ofNat 32 e.val) :
    wrapT (broadcastInDim S32x64x1 ![0, 1] bcast_S32x64_S32x64x1_0_1 i) (ix3 n s 0) = BitVec.ofNat 32 e.val := by
  pointwise [wrapT]
  rw [hi, not_neg _ (by omega)]
  rfl

/-- The attention row of the chosen expert at an index. -/
theorem take_at (z : FVec Ideal S32x8x512 .f32) (i : IVec S32x64 32) (n : Fin 32) (s : Fin 64) (l : Fin 512) (e : Fin 8)
    (hi : i (ix2 n s) = BitVec.ofNat 32 e.val) :
    take z (broadcastInDim S32x64x1 ![0, 1] bcast_S32x64_S32x64x1_0_1 i) (ix3 n s l) = z (ix3 n e l) := by
  have hw := wrapT_at i n s e hi
  have hr : inR (wrapT (broadcastInDim S32x64x1 ![0, 1] bcast_S32x64_S32x64x1_0_1 i)) (ix2 n s) = 1#1 := by
    generalize wrapT _ = w at hw
    pointwise [inR]
    rw [Finset.univ_unique, Finset.fold_singleton]
    show IntOp.andi (IntOp.andi (IntOp.cmpi .sge (w (ix3 n s 0)) 0#32) (IntOp.cmpi .sle (w (ix3 n s 0)) 7#32)) 1#1 = 1#1
    rw [hw]
    clear hw hi
    revert e
    decide
  unfold take
  pointwise
  rw [hr, gatherZ z _ n s l e hw]
  rfl

/-- The position word of tap `k` at position `t`. -/
theorem posw_at (t : Fin 512) (k : Fin 25) : posw (ix3 t k 0) = BitVec.ofNat 32 (t.val + k.val) := by
  have e : IntOp.addi (BitVec.ofNat 32 t.val) (BitVec.ofNat 32 k.val) = BitVec.ofNat 32 (t.val + k.val) := by
    exact (BitVec.ofNat_add ..).symm
  pointwise [posw, posn]
  rw [e, not_neg _ (by omega)]
  rfl

/-- A window of a channel of a token at an index. -/
theorem patches_at (x z : FVec Ideal S32x64x512 .f32) (n : Fin 32) (s : Fin 64) (ch : Fin 2) (t : Fin 512) (k : Fin 25) :
    patches (padded (chans x z)) (ix4 ⟨n.val * 64 + s.val, by omega⟩ ch t k)
      = Model.tap (fun j => if ch.val < 1 then x (ix3 n s j) else z (ix3 n s j)) t k := by
  unfold patches
  rw [gatherP _ _ _ ch t k ⟨t.val + k.val, by omega⟩ (posw_at t k)]
  pointwise [padded, chans]
  unfold Model.tap
  split
  · rename_i h
    rw [dif_pos h.2]
    rfl
  · rename_i h
    rw [dif_neg fun h' => h ⟨by omega, h'⟩]
    show ((((0#32 : BitVec 32).toInt : ℝ)) : EReal) = 0
    simp

/-- The reference's result at an index, the token's expert being `e`. -/
theorem tail_at (z : FVec Ideal S32x8x512 .f32) (x : FVec Ideal S32x64x512 .f32) (i : IVec S32x64 32) (a10 : FVec Ideal S8x1x2x25 .f32)
    (a11 : FVec Ideal S8 .f32) (a12 : FVec Ideal S8x96x512 .f32) (a13 : FVec Ideal S8x96 .f32) (n : Fin 32) (s : Fin 64) (p : Fin 96)
    (e : Fin 8) (hi : i (ix2 n s) = BitVec.ofNat 32 e.val) :
    tail z x i a10 a11 a12 a13 (ix3 n s p) = Model.out (fun j => x (ix3 n s j)) (fun j => z (ix3 n e j)) (fun k => a10 (ix4 e 0 0 k))
      (fun k => a10 (ix4 e 0 1 k)) (a11 (ix1 e)) (fun l => a12 (ix3 e p l)) (a13 (ix2 e p)) := by
  have hw := wrap8_at i n s e hi
  have ht := fun l => take_at z i n s l e hi
  unfold tail
  generalize take z _ = y at ht
  generalize shapeCast S2048 i shapeCasts_S32x64_S2048 = i' at hw
  pointwise [pred, conv]
  rw [gatherC _ _ _ p e hw]
  refine congrArg (· + _) (Finset.sum_congr rfl fun l _ => ?_)
  rw [gatherV _ _ _ p l e hw, gatherB _ _ _ e hw]
  refine congrArg (· * _) (congrArg (· + _) ?_)
  rw [Fin.sum_univ_two]
  simp only [gatherW _ _ _ _ _ e hw, patches_at, ht]
  rfl

end Cert.ReferenceIdeal.Fn
end
-- ==== Proof.Best.lean ====
module

public import proofs.«01_k».proof.Proof.RefFn
public import Idealize.ShloMosaic.Lib.Pointwise
public import Idealize.ShloMosaic.Lib.WordCmp
public import Idealize.ShloMosaic.PureOps.Ideal.Laws

/-! The router row that is chosen for a token is one of the eight. -/

@[expose] public section
set_option maxRecDepth 16384
noncomputable section
namespace Cert.ReferenceIdeal.Fn
open Cert.ReferenceIdeal Cert.ReferenceIdeal.Gen Idealize.ShloMosaic Idealize.ShloMosaic.TcCoe Idealize.SL.Sem

/-- A step of the search keeps one of its two indices. -/
theorem step_mem (a b : Ideal .f32 × BitVec 32) :
    (reducer_argmax_f32_i32 a b).2 = a.2 ∨ (reducer_argmax_f32_i32 a b).2 = b.2 := by
  unfold reducer_argmax_f32_i32 Scalar.select
  dsimp only
  split
  · exact Or.inl rfl
  · exact Or.inr rfl

/-- A search among indices below eight ends at one below eight. -/
theorem fold_lt (L : List (Ideal .f32 × BitVec 32)) : ∀ a : Ideal .f32 × BitVec 32, a.2.toNat < 8 → (∀ p ∈ L, p.2.toNat < 8) →
    (L.foldl reducer_argmax_f32_i32 a).2.toNat < 8 := by
  induction L with
  | nil => exact fun a ha _ => ha
  | cons p L ih =>
    intro a ha hL
    refine ih _ ?_ fun q hq => hL q (List.mem_cons_of_mem p hq)
    rcases step_mem a p with h | h <;> rw [h]
    · exact ha
    · exact hL p List.mem_cons_self

/-- The chosen index is below eight, whatever the scores. -/
theorem best_lt (s : FVec Ideal S32x8x64 .f32) (j : S32x64.Idx) : (best s j).toNat < 8 := by
  unfold best
  rw [Ideal.argReduce_eq_reduce2, Host.reduce2_eq_foldl_fiber]
  refine fold_lt _ _ (by show (0#32).toNat < 8; decide) fun p hp => ?_
  obtain ⟨n, _, rfl⟩ := List.mem_map.mp hp
  generalize S32x8x64.rowMajor.symm n = y
  idx_vars y
  pointwise
  have := y1.isLt
  rw [WordCmp.toNat_ofNat_of_lt (by omega)]
  exact this

/-- The chosen router row of a token. -/
def pickOf (s : FVec Ideal S32x8x64 .f32) (n : Fin 32) (t : Fin 64) : Fin 8 := ⟨(best s (ix2 n t)).toNat, best_lt s _⟩

/-- A word is the word of its number. -/
theorem word_self (w : BitVec 32) : w = BitVec.ofNat 32 w.toNat := by simp

set_option maxRecDepth 65536 in
/-- The chosen index is the word of that row. -/
theorem best_at (s : FVec Ideal S32x8x64 .f32) (n : Fin 32) (t : Fin 64) : best s (ix2 n t) = BitVec.ofNat 32 (pickOf s n t).val :=
  word_self _

end Cert.ReferenceIdeal.Fn
end
-- ==== Proof.Arr.lean ====
module

public import proofs.«01_k».proof.Proof.Reads
public import proofs.«01_k».proof.Proof.BodyEq
public import proofs.«01_k».proof.Proof.KerAt
public import proofs.«01_k».proof.Proof.Host
public import proofs.«01_k».proof.Proof.RefAt
public import proofs.«01_k».proof.Proof.Best
public import Idealize.ShloMosaic.Lib.Pipeline.ValueKit

/-! The equation: what the launch leaves in the output array is the reference's result. -/

@[expose] public section
set_option maxRecDepth 16384
noncomputable section
namespace Cert.KernelIdeal.Arr
open Cert.KernelIdeal Cert.KernelIdeal.Gen Idealize.ShloMosaic Idealize.ShloMosaic.TcCoe Idealize.SL.Sem
open Cert.ReferenceIdeal.Fn (att score best tail att_at tail_at best_at pickOf)
open Cert.KernelIdeal.Reads
open Cert.KernelIdeal.HostV (hot)
variable (m : (ℓ : Loc nD τ sig) → Buf (Elt Ideal) ℓ)

/-- Two words of numbers below eight are equal only when the numbers are. -/
theorem one_eq : ∀ e c : Fin 8, (IntOp.cmpi .eq (BitVec.ofNat 32 e.val) (BitVec.ofNat 32 c.val)) = if c = e then 1#1 else 0#1 := by
  decide

/-- A one-hot row at an index. -/
theorem hot_at (i : IVec S32x64 32) (n : Fin 32) (s : Fin 64) (e c : Fin 8) (hi : i (ix2 n s) = BitVec.ofNat 32 e.val) :
    hot i (ix3 n s c) = (if c = e then 1 else 0 : EReal) := by
  pointwise [hot]
  rw [hi, one_eq e c]
  split
  · show (((1#1 : BitVec 1).toNat : ℝ) : EReal) = 1
    simp
  · show (((0#1 : BitVec 1).toNat : ℝ) : EReal) = 0
    simp

/-- The attention rows of the arguments. -/
def rows (c : Dev nD) : FVec Ideal S32x8x512 .f32 :=
  att (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7))
    (m (c.tc.loc main_arg8)) (m (c.tc.loc main_arg9))

/-- The router's scores of the arguments. -/
def scored (c : Dev nD) : FVec Ideal S32x8x64 .f32 := score (rows m c) (m (c.tc.loc main_arg0))

/-- The reference's result of the arguments. -/
def want (c : Dev nD) : FVec Ideal S32x64x96 .f32 :=
  tail (rows m c) (m (c.tc.loc main_arg0)) (best (scored m c)) (m (c.tc.loc main_arg10)) (m (c.tc.loc main_arg11))
    (m (c.tc.loc main_arg12)) (m (c.tc.loc main_arg13))

/-- The one-hot row of a token of a grid point. -/
theorem hot_block (c : Dev nD) (t : Fin cfg0.N) (b : Fin 4) (s : Fin 64) (e : Fin 8) :
    iblk m c 15 t (ix3 b s e) = (if e = pickOf (scored m c) (batch t b) s then 1 else 0 : EReal) := by
  rw [read15, HostV.v66]
  exact hot_at _ _ _ _ _ (best_at (scored m c) _ _)

/-- The attention rows depend only on the entries read. -/
theorem rows_of (x0 : Vec Ideal S4x64x512 .f32) (x1 : Vec Ideal S1x8x512 .f32) (x2 x4 x6 x8 : Vec Ideal S512x512 .f32)
    (x3 x5 x7 x9 : Vec Ideal S1x512 .f32) (a0 : FVec Ideal S32x64x512 .f32) (a1 : FVec Ideal S1x8x512 .f32)
    (a2 a4 a6 a8 : FVec Ideal S512x512 .f32) (a3 a5 a7 a9 : FVec Ideal S512 .f32) (b : Fin 4) (n : Fin 32)
    (r0 : ∀ s j, x0 (ix3 b s j) = a0 (ix3 n s j)) (r1 : ∀ e j, x1 (ix3 0 e j) = a1 (ix3 0 e j))
    (rs : ∀ l j, x2 (ix2 l j) = a2 (ix2 l j) ∧ x4 (ix2 l j) = a4 (ix2 l j) ∧ x6 (ix2 l j) = a6 (ix2 l j) ∧ x8 (ix2 l j) = a8 (ix2 l j))
    (rb : ∀ l, x3 (ix2 0 l) = a3 (ix1 l) ∧ x5 (ix2 0 l) = a5 (ix1 l) ∧ x7 (ix2 0 l) = a7 (ix1 l) ∧ x9 (ix2 0 l) = a9 (ix1 l))
    (e : Fin 8) (l : Fin 512) :
    Model.attn (Body.qOf x1 x2 x3) (Body.kOf x0 x4 x5 b) (Body.kOf x0 x6 x7 b) (fun l j => x8 (ix2 l j)) (fun l => x9 (ix2 0 l)) e l
      = att a0 a1 a2 a3 a4 a5 a6 a7 a8 a9 (ix3 n e l) := by
  rw [att_at]
  unfold Body.qOf Body.kOf Cert.ReferenceIdeal.Fn.qOf Cert.ReferenceIdeal.Fn.kOf
  simp only [r0, r1, (rs _ _).1, (rs _ _).2.1, (rs _ _).2.2.1, (rs _ _).2.2.2, (rb _).1, (rb _).2.1, (rb _).2.2.1, (rb _).2.2.2]

/-- The attention row of a batch of a grid point. -/
theorem rows_block (c : Dev nD) (t : Fin cfg0.N) (b : Fin 4) (e : Fin 8) (l : Fin 512) :
    Model.attn (Body.qOf (iblk m c 1 t) (iblk m c 2 t) (iblk m c 3 t)) (Body.kOf (iblk m c 0 t) (iblk m c 4 t) (iblk m c 5 t) b)
        (Body.kOf (iblk m c 0 t) (iblk m c 6 t) (iblk m c 7 t) b) (fun l j => iblk m c 8 t (ix2 l j))
        (fun l => iblk m c 9 t (ix2 0 l)) e l
      = rows m c (ix3 (batch t b) e l) := by
  obtain ⟨a0, a1, a2, a4, a6, a8, -⟩ := HostV.args m c
  refine rows_of _ _ _ _ _ _ _ _ _ _ _ _ _ _ _ _ _ _ _ _ b (batch t b) (fun s j => ?_) (fun e j => ?_) (fun l j => ?_) (fun l => ?_) e l
  · exact (read0 m c t b s j).trans (congrFun a0 _)
  · exact (read1 m c t e j).trans (congrFun a1 _)
  · obtain ⟨h2, h4, h6, h8⟩ := readSquare m c t l j
    exact ⟨h2.trans (congrFun a2 _), h4.trans (congrFun a4 _), h6.trans (congrFun a6 _), h8.trans (congrFun a8 _)⟩
  · obtain ⟨h3, h5, h7, h9⟩ := readRow m c t l
    obtain ⟨b3, b5, b7, b9⟩ := HostV.biases m c l
    exact ⟨h3.trans b3, h5.trans b5, h7.trans b7, h9.trans b9⟩

/-- A grid point's block at an index is the reference's result of that batch. -/
theorem block_at (c : Dev nD) (t : Fin cfg0.N) (b : Fin 4) (s : Fin 64) (p : Fin 96) :
    (dats m 0 c).after 16 t (ix3 b s p) = want m c (ix3 (batch t b) s p) := by
  obtain ⟨a0, -, -, -, -, -, a13⟩ := HostV.args m c
  obtain ⟨w72, w77, w81, w82⟩ := HostV.weights m c
  have r0 := fun j => ((read0 m c t b s j).trans (congrFun a0 _))
  have r10 := fun e k => ((read10 m c t e k).trans (w72 e k))
  have r11 := fun r k => ((read11 m c t r k).trans (w77 r k))
  have r12 := fun r => ((read12 m c t r).trans (w81 r))
  have r13 := fun r l => ((read13 m c t r l).trans (w82 r l))
  have r14 := fun e p => ((read14 m c t e p).trans (congrFun a13 _))
  have hz := fun e l => rows_block m c t b e l
  rw [Value.after_eq]
  refine (Body.blockV_at _ _ _ _ _ _ _ _ _ _ _ _ _ _ _ _ b s p _ (hot_block m c t b s)).trans ?_
  unfold want
  rw [tail_at _ _ _ _ _ _ _ _ _ _ _ (best_at (scored m c) (batch t b) s)]
  generalize pickOf (scored m c) (batch t b) s = e
  have h8 : (⟨(b.val * 8 + e.val) % 8, by omega⟩ : Fin 8) = e := Fin.ext (by dsimp only; omega)
  have hq : (⟨(e.val * 96 + p.val) / 96, by omega⟩ : Fin 8) = e := Fin.ext (by dsimp only; omega)
  have hp : (⟨(e.val * 96 + p.val) % 96, by omega⟩ : Fin 96) = p := Fin.ext (by dsimp only; omega)
  simp only [r0, r10, r11, r12, r13, r14, h8, hq, hp]
  exact congrArg (fun z => Model.out _ z _ _ _ _ _) (funext fun l => hz e l)

/-- The output array after the launch is the reference's result of the arguments. -/
theorem array_eq (c : Dev nD) : (dats m 0 c).arrAt 16 cfg0.N = want m c := by
  refine (dats m 0 c).arrAt_eq_of_covers 16 _ (by decide +kernel) fun t hf y => ?_
  blk_simp
  idx_vars y
  refine (block_at m c t y0 y1 y2).trans (congrArg _ ?_)
  blk_ext [idxMoving t, batch]

end Cert.KernelIdeal.Arr
end
-- ==== Proof.RefRun.lean ====
module

public import proofs.«01_k».proof.Defs
public import proofs.«01_k».proof.Proof.Gen.ReferenceIdeal
public import proofs.«01_k».proof.Proof.RefFn
public import Idealize.ShloMosaic.Lib.Claim
public import Idealize.ShloMosaic.Lib.Tactic.CleanTypes
public import Idealize.ShloMosaic.Lib.Quiescent

@[expose] public section

set_option maxRecDepth 65536

noncomputable section

open Idealize.ShloMosaic Idealize.ShloMosaic.TcCoe Idealize.SL.Sem

namespace Cert.Proof.RefRun
open Cert.ReferenceIdeal Cert.ReferenceIdeal.Fn

set_option maxHeartbeats 2000000 in
/-- The reference ends with the result of its steps one after another, its arguments as they began. -/
theorem run_r (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v111) =
        tail (att (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
          (m ((c.tc : Thread nD τ).loc main_arg0))
          (best (score (att (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg0))))
          (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  hlo_run
  clean_types
  simp -implicitDefEqProofs only [StableHlo.TRef.toBuf, StableHlo.TRef.ofBuf, cast_cast, cast_eq]
  unfold tail pred conv patches posw posn padded chans take inR wrapT wrap8 best score len64 len8 att mixed norml expo scores lin64 lin8
  rfl

end Cert.Proof.RefRun

end
-- ==== Proof.Equal.lean ====
module

public import proofs.«01_k».proof.Defs
public import proofs.«01_k».proof.Proof.Gen.KernelIdeal
public import proofs.«01_k».proof.Proof.Gen.ReferenceIdeal
public import proofs.«01_k».proof.Proof.Arr
public import proofs.«01_k».proof.Proof.RefRun

/-! The two runs side by side: both end with the reference's result of the kernel's arguments. -/

@[expose] public section
noncomputable section
namespace Cert.Proof
open Idealize.ShloMosaic Idealize.ShloMosaic.TcCoe Idealize.SL.Sem

/-- From memories agreeing on the arguments the kernel and the reference end with the same array, arguments unchanged. -/
theorem equal : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Arr.want m c, ?_, ?_⟩
  · refine θ_run_mono (Cert.KernelIdeal.Value.run_blocks m g) fun r h c => ?_
    obtain ⟨h0, h1⟩ := h c
    exact ⟨h0.trans (Cert.KernelIdeal.Arr.array_eq m c), h1⟩
  · refine θ_run_mono (Cert.Proof.RefRun.run_r m' g') fun r h c => ?_
    obtain ⟨h0, h1⟩ := h c
    refine ⟨h0.trans ?_, h1⟩
    obtain ⟨e0, e1, e2, e3, e4, e5, e6, e7, e8, e9, e10, e11, e12, e13⟩ := hagree c
    rw [e0, e1, e2, e3, e4, e5, e6, e7, e8, e9, e10, e11, e12, e13]
    rfl

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.RefFrame
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The five claims: the three programs' frames, the ideal program being the kernel's own text, and the equation. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g,
  Cert.Proof.RefFrame.frame_r, trivial, Cert.Proof.equal⟩

end Cert.Proof

end
